-- ==== Defs.lean ====
def Pre_HgrnStep (m : (ℓ : Loc Cert.HgrnStep.nD Cert.HgrnStep.τ Cert.HgrnStep.sig) → Buf (Elt Bits) ℓ) : Prop :=
  True

def Pre_HgrnStepIdeal (m : (ℓ : Loc Cert.HgrnStepIdeal.nD Cert.HgrnStepIdeal.τ Cert.HgrnStepIdeal.sig) → Buf (Elt Ideal) ℓ) : Prop :=
  True

def Pre_HgrnStepIdeal_finite_hgrn [hPre_finite_hgrn : Cert.Pre_finite_hgrn.Facts] (m : (ℓ : Loc Cert.HgrnStepIdeal.nD Cert.HgrnStepIdeal.τ Cert.HgrnStepIdeal.sig) → Buf (Elt Ideal) ℓ) : Prop :=
  ∀ c : Dev Cert.HgrnStepIdeal.nD,
    (Cert.Pre_finite_hgrn.fn (F := Ideal) (m ((c.tc : Thread Cert.HgrnStepIdeal.nD Cert.HgrnStepIdeal.τ).loc Cert.HgrnStepIdeal.main_arg0)) (m ((c.tc : Thread Cert.HgrnStepIdeal.nD Cert.HgrnStepIdeal.τ).loc Cert.HgrnStepIdeal.main_arg1)) (m ((c.tc : Thread Cert.HgrnStepIdeal.nD Cert.HgrnStepIdeal.τ).loc Cert.HgrnStepIdeal.main_arg2)) (m ((c.tc : Thread Cert.HgrnStepIdeal.nD Cert.HgrnStepIdeal.τ).loc Cert.HgrnStepIdeal.main_arg3))) = (fun _ => 1#1)

def Pre_HgrnStepRefIdeal (m : (ℓ : Loc Cert.HgrnStepRefIdeal.nD Cert.HgrnStepRefIdeal.τ Cert.HgrnStepRefIdeal.sig) → Buf (Elt Ideal) ℓ) : Prop :=
  True

def Pre_HgrnStepRefIdeal_finite_hgrn [hPre_finite_hgrn : Cert.Pre_finite_hgrn.Facts] (m : (ℓ : Loc Cert.HgrnStepRefIdeal.nD Cert.HgrnStepRefIdeal.τ Cert.HgrnStepRefIdeal.sig) → Buf (Elt Ideal) ℓ) : Prop :=
  ∀ c : Dev Cert.HgrnStepRefIdeal.nD,
    (Cert.Pre_finite_hgrn.fn (F := Ideal) (m ((c.tc : Thread Cert.HgrnStepRefIdeal.nD Cert.HgrnStepRefIdeal.τ).loc Cert.HgrnStepRefIdeal.main_arg0)) (m ((c.tc : Thread Cert.HgrnStepRefIdeal.nD Cert.HgrnStepRefIdeal.τ).loc Cert.HgrnStepRefIdeal.main_arg1)) (m ((c.tc : Thread Cert.HgrnStepRefIdeal.nD Cert.HgrnStepRefIdeal.τ).loc Cert.HgrnStepRefIdeal.main_arg2)) (m ((c.tc : Thread Cert.HgrnStepRefIdeal.nD Cert.HgrnStepRefIdeal.τ).loc Cert.HgrnStepRefIdeal.main_arg3))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_FinalPromptRefIdeal (m : (ℓ : Loc Cert.FinalPromptRefIdeal.nD Cert.FinalPromptRefIdeal.τ Cert.FinalPromptRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_GlaStep (m : (ℓ : Loc Cert.GlaStep.nD Cert.GlaStep.τ Cert.GlaStep.sig) → Buf (Elt Bits) ℓ) : Prop :=
  True

def Pre_GlaStepIdeal (m : (ℓ : Loc Cert.GlaStepIdeal.nD Cert.GlaStepIdeal.τ Cert.GlaStepIdeal.sig) → Buf (Elt Ideal) ℓ) : Prop :=
  True

def Pre_GlaStepIdeal_finite_gla [hPre_finite_gla : Cert.Pre_finite_gla.Facts] (m : (ℓ : Loc Cert.GlaStepIdeal.nD Cert.GlaStepIdeal.τ Cert.GlaStepIdeal.sig) → Buf (Elt Ideal) ℓ) : Prop :=
  ∀ c : Dev Cert.GlaStepIdeal.nD,
    (Cert.Pre_finite_gla.fn (F := Ideal) (m ((c.tc : Thread Cert.GlaStepIdeal.nD Cert.GlaStepIdeal.τ).loc Cert.GlaStepIdeal.main_arg0)) (m ((c.tc : Thread Cert.GlaStepIdeal.nD Cert.GlaStepIdeal.τ).loc Cert.GlaStepIdeal.main_arg1)) (m ((c.tc : Thread Cert.GlaStepIdeal.nD Cert.GlaStepIdeal.τ).loc Cert.GlaStepIdeal.main_arg2)) (m ((c.tc : Thread Cert.GlaStepIdeal.nD Cert.GlaStepIdeal.τ).loc Cert.GlaStepIdeal.main_arg3)) (m ((c.tc : Thread Cert.GlaStepIdeal.nD Cert.GlaStepIdeal.τ).loc Cert.GlaStepIdeal.main_arg4))) = (fun _ => 1#1)

def Pre_GlaStepRefIdeal (m : (ℓ : Loc Cert.GlaStepRefIdeal.nD Cert.GlaStepRefIdeal.τ Cert.GlaStepRefIdeal.sig) → Buf (Elt Ideal) ℓ) : Prop :=
  True

def Pre_GlaStepRefIdeal_finite_gla [hPre_finite_gla : Cert.Pre_finite_gla.Facts] (m : (ℓ : Loc Cert.GlaStepRefIdeal.nD Cert.GlaStepRefIdeal.τ Cert.GlaStepRefIdeal.sig) → Buf (Elt Ideal) ℓ) : Prop :=
  ∀ c : Dev Cert.GlaStepRefIdeal.nD,
    (Cert.Pre_finite_gla.fn (F := Ideal) (m ((c.tc : Thread Cert.GlaStepRefIdeal.nD Cert.GlaStepRefIdeal.τ).loc Cert.GlaStepRefIdeal.main_arg0)) (m ((c.tc : Thread Cert.GlaStepRefIdeal.nD Cert.GlaStepRefIdeal.τ).loc Cert.GlaStepRefIdeal.main_arg1)) (m ((c.tc : Thread Cert.GlaStepRefIdeal.nD Cert.GlaStepRefIdeal.τ).loc Cert.GlaStepRefIdeal.main_arg2)) (m ((c.tc : Thread Cert.GlaStepRefIdeal.nD Cert.GlaStepRefIdeal.τ).loc Cert.GlaStepRefIdeal.main_arg3)) (m ((c.tc : Thread Cert.GlaStepRefIdeal.nD Cert.GlaStepRefIdeal.τ).loc Cert.GlaStepRefIdeal.main_arg4))) = (fun _ => 1#1)

def quiescent_HgrnStep [hHgrnStep : Cert.HgrnStep.Facts] : Prop :=
  ∀ (m : (ℓ : Loc Cert.HgrnStep.nD Cert.HgrnStep.τ Cert.HgrnStep.sig) → Buf (Elt Bits) ℓ) (g : Dev Cert.HgrnStep.nD → PrngReg), Pre_HgrnStep m →
    θ_run (Cert.HgrnStep.defs (F := Bits)) (onTc (τ := Cert.HgrnStep.τ) (Cert.HgrnStep.main (F := Bits))) ⟨m, fun _ => 0, g⟩ (fun r => (∀ c : Dev Cert.HgrnStep.nD,
      r.2.mem ((c.tc : Thread Cert.HgrnStep.nD Cert.HgrnStep.τ).loc Cert.HgrnStep.main_arg0) = m ((c.tc : Thread Cert.HgrnStep.nD Cert.HgrnStep.τ).loc Cert.HgrnStep.main_arg0)
      ∧ r.2.mem ((c.tc : Thread Cert.HgrnStep.nD Cert.HgrnStep.τ).loc Cert.HgrnStep.main_arg1) = m ((c.tc : Thread Cert.HgrnStep.nD Cert.HgrnStep.τ).loc Cert.HgrnStep.main_arg1)
      ∧ r.2.mem ((c.tc : Thread Cert.HgrnStep.nD Cert.HgrnStep.τ).loc Cert.HgrnStep.main_arg2) = m ((c.tc : Thread Cert.HgrnStep.nD Cert.HgrnStep.τ).loc Cert.HgrnStep.main_arg2)
      ∧ r.2.mem ((c.tc : Thread Cert.HgrnStep.nD Cert.HgrnStep.τ).loc Cert.HgrnStep.main_arg3) = m ((c.tc : Thread Cert.HgrnStep.nD Cert.HgrnStep.τ).loc Cert.HgrnStep.main_arg3))
      ∧ r.2.sem = fun _ => 0)

def quiescent_HgrnStepIdeal [hHgrnStepIdeal : Cert.HgrnStepIdeal.Facts] : Prop :=
  ∀ (m : (ℓ : Loc Cert.HgrnStepIdeal.nD Cert.HgrnStepIdeal.τ Cert.HgrnStepIdeal.sig) → Buf (Elt Ideal) ℓ) (g : Dev Cert.HgrnStepIdeal.nD → PrngReg), Pre_HgrnStepIdeal m →
    θ_run (Cert.HgrnStepIdeal.defs (F := Ideal)) (onTc (τ := Cert.HgrnStepIdeal.τ) (Cert.HgrnStepIdeal.main (F := Ideal))) ⟨m, fun _ => 0, g⟩ (fun r => (∀ c : Dev Cert.HgrnStepIdeal.nD,
      r.2.mem ((c.tc : Thread Cert.HgrnStepIdeal.nD Cert.HgrnStepIdeal.τ).loc Cert.HgrnStepIdeal.main_arg0) = m ((c.tc : Thread Cert.HgrnStepIdeal.nD Cert.HgrnStepIdeal.τ).loc Cert.HgrnStepIdeal.main_arg0)
      ∧ r.2.mem ((c.tc : Thread Cert.HgrnStepIdeal.nD Cert.HgrnStepIdeal.τ).loc Cert.HgrnStepIdeal.main_arg1) = m ((c.tc : Thread Cert.HgrnStepIdeal.nD Cert.HgrnStepIdeal.τ).loc Cert.HgrnStepIdeal.main_arg1)
      ∧ r.2.mem ((c.tc : Thread Cert.HgrnStepIdeal.nD Cert.HgrnStepIdeal.τ).loc Cert.HgrnStepIdeal.main_arg2) = m ((c.tc : Thread Cert.HgrnStepIdeal.nD Cert.HgrnStepIdeal.τ).loc Cert.HgrnStepIdeal.main_arg2)
      ∧ r.2.mem ((c.tc : Thread Cert.HgrnStepIdeal.nD Cert.HgrnStepIdeal.τ).loc Cert.HgrnStepIdeal.main_arg3) = m ((c.tc : Thread Cert.HgrnStepIdeal.nD Cert.HgrnStepIdeal.τ).loc Cert.HgrnStepIdeal.main_arg3))
      ∧ r.2.sem = fun _ => 0)

def quiescent_HgrnStepIdeal_pre_finite_hgrn [hHgrnStepIdeal : Cert.HgrnStepIdeal.Facts] [hPre_finite_hgrn : Cert.Pre_finite_hgrn.Facts] : Prop :=
  ∀ (m : (ℓ : Loc Cert.HgrnStepIdeal.nD Cert.HgrnStepIdeal.τ Cert.HgrnStepIdeal.sig) → Buf (Elt Ideal) ℓ) (g : Dev Cert.HgrnStepIdeal.nD → PrngReg), Pre_HgrnStepIdeal_finite_hgrn m →
    θ_run (Cert.HgrnStepIdeal.defs (F := Ideal)) (onTc (τ := Cert.HgrnStepIdeal.τ) (Cert.HgrnStepIdeal.main (F := Ideal))) ⟨m, fun _ => 0, g⟩ (fun r => (∀ c : Dev Cert.HgrnStepIdeal.nD,
      r.2.mem ((c.tc : Thread Cert.HgrnStepIdeal.nD Cert.HgrnStepIdeal.τ).loc Cert.HgrnStepIdeal.main_arg0) = m ((c.tc : Thread Cert.HgrnStepIdeal.nD Cert.HgrnStepIdeal.τ).loc Cert.HgrnStepIdeal.main_arg0)
      ∧ r.2.mem ((c.tc : Thread Cert.HgrnStepIdeal.nD Cert.HgrnStepIdeal.τ).loc Cert.HgrnStepIdeal.main_arg1) = m ((c.tc : Thread Cert.HgrnStepIdeal.nD Cert.HgrnStepIdeal.τ).loc Cert.HgrnStepIdeal.main_arg1)
      ∧ r.2.mem ((c.tc : Thread Cert.HgrnStepIdeal.nD Cert.HgrnStepIdeal.τ).loc Cert.HgrnStepIdeal.main_arg2) = m ((c.tc : Thread Cert.HgrnStepIdeal.nD Cert.HgrnStepIdeal.τ).loc Cert.HgrnStepIdeal.main_arg2)
      ∧ r.2.mem ((c.tc : Thread Cert.HgrnStepIdeal.nD Cert.HgrnStepIdeal.τ).loc Cert.HgrnStepIdeal.main_arg3) = m ((c.tc : Thread Cert.HgrnStepIdeal.nD Cert.HgrnStepIdeal.τ).loc Cert.HgrnStepIdeal.main_arg3))
      ∧ r.2.sem = fun _ => 0)

def quiescent_HgrnStepRefIdeal [hHgrnStepRefIdeal : Cert.HgrnStepRefIdeal.Facts] : Prop :=
  ∀ (m : (ℓ : Loc Cert.HgrnStepRefIdeal.nD Cert.HgrnStepRefIdeal.τ Cert.HgrnStepRefIdeal.sig) → Buf (Elt Ideal) ℓ) (g : Dev Cert.HgrnStepRefIdeal.nD → PrngReg), Pre_HgrnStepRefIdeal m →
    θ_run (Cert.HgrnStepRefIdeal.defs (F := Ideal)) (onTc (τ := Cert.HgrnStepRefIdeal.τ) (Cert.HgrnStepRefIdeal.main (F := Ideal))) ⟨m, fun _ => 0, g⟩ (fun r => (∀ c : Dev Cert.HgrnStepRefIdeal.nD,
      r.2.mem ((c.tc : Thread Cert.HgrnStepRefIdeal.nD Cert.HgrnStepRefIdeal.τ).loc Cert.HgrnStepRefIdeal.main_arg0) = m ((c.tc : Thread Cert.HgrnStepRefIdeal.nD Cert.HgrnStepRefIdeal.τ).loc Cert.HgrnStepRefIdeal.main_arg0)
      ∧ r.2.mem ((c.tc : Thread Cert.HgrnStepRefIdeal.nD Cert.HgrnStepRefIdeal.τ).loc Cert.HgrnStepRefIdeal.main_arg1) = m ((c.tc : Thread Cert.HgrnStepRefIdeal.nD Cert.HgrnStepRefIdeal.τ).loc Cert.HgrnStepRefIdeal.main_arg1)
      ∧ r.2.mem ((c.tc : Thread Cert.HgrnStepRefIdeal.nD Cert.HgrnStepRefIdeal.τ).loc Cert.HgrnStepRefIdeal.main_arg2) = m ((c.tc : Thread Cert.HgrnStepRefIdeal.nD Cert.HgrnStepRefIdeal.τ).loc Cert.HgrnStepRefIdeal.main_arg2)
      ∧ r.2.mem ((c.tc : Thread Cert.HgrnStepRefIdeal.nD Cert.HgrnStepRefIdeal.τ).loc Cert.HgrnStepRefIdeal.main_arg3) = m ((c.tc : Thread Cert.HgrnStepRefIdeal.nD Cert.HgrnStepRefIdeal.τ).loc Cert.HgrnStepRefIdeal.main_arg3))
      ∧ r.2.sem = fun _ => 0)

def quiescent_HgrnStepRefIdeal_pre_finite_hgrn [hHgrnStepRefIdeal : Cert.HgrnStepRefIdeal.Facts] [hPre_finite_hgrn : Cert.Pre_finite_hgrn.Facts] : Prop :=
  ∀ (m : (ℓ : Loc Cert.HgrnStepRefIdeal.nD Cert.HgrnStepRefIdeal.τ Cert.HgrnStepRefIdeal.sig) → Buf (Elt Ideal) ℓ) (g : Dev Cert.HgrnStepRefIdeal.nD → PrngReg), Pre_HgrnStepRefIdeal_finite_hgrn m →
    θ_run (Cert.HgrnStepRefIdeal.defs (F := Ideal)) (onTc (τ := Cert.HgrnStepRefIdeal.τ) (Cert.HgrnStepRefIdeal.main (F := Ideal))) ⟨m, fun _ => 0, g⟩ (fun r => (∀ c : Dev Cert.HgrnStepRefIdeal.nD,
      r.2.mem ((c.tc : Thread Cert.HgrnStepRefIdeal.nD Cert.HgrnStepRefIdeal.τ).loc Cert.HgrnStepRefIdeal.main_arg0) = m ((c.tc : Thread Cert.HgrnStepRefIdeal.nD Cert.HgrnStepRefIdeal.τ).loc Cert.HgrnStepRefIdeal.main_arg0)
      ∧ r.2.mem ((c.tc : Thread Cert.HgrnStepRefIdeal.nD Cert.HgrnStepRefIdeal.τ).loc Cert.HgrnStepRefIdeal.main_arg1) = m ((c.tc : Thread Cert.HgrnStepRefIdeal.nD Cert.HgrnStepRefIdeal.τ).loc Cert.HgrnStepRefIdeal.main_arg1)
      ∧ r.2.mem ((c.tc : Thread Cert.HgrnStepRefIdeal.nD Cert.HgrnStepRefIdeal.τ).loc Cert.HgrnStepRefIdeal.main_arg2) = m ((c.tc : Thread Cert.HgrnStepRefIdeal.nD Cert.HgrnStepRefIdeal.τ).loc Cert.HgrnStepRefIdeal.main_arg2)
      ∧ r.2.mem ((c.tc : Thread Cert.HgrnStepRefIdeal.nD Cert.HgrnStepRefIdeal.τ).loc Cert.HgrnStepRefIdeal.main_arg3) = m ((c.tc : Thread Cert.HgrnStepRefIdeal.nD Cert.HgrnStepRefIdeal.τ).loc Cert.HgrnStepRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ r.2.sem = fun _ => 0)

def quiescent_FinalPromptRefIdeal [hFinalPromptRefIdeal : Cert.FinalPromptRefIdeal.Facts] : Prop :=
  ∀ (m : (ℓ : Loc Cert.FinalPromptRefIdeal.nD Cert.FinalPromptRefIdeal.τ Cert.FinalPromptRefIdeal.sig) → Buf (Elt Ideal) ℓ) (g : Dev Cert.FinalPromptRefIdeal.nD → PrngReg), Pre_FinalPromptRefIdeal m →
    θ_run (Cert.FinalPromptRefIdeal.defs (F := Ideal)) (onTc (τ := Cert.FinalPromptRefIdeal.τ) (Cert.FinalPromptRefIdeal.main (F := Ideal))) ⟨m, fun _ => 0, g⟩ (fun r => (∀ c : Dev Cert.FinalPromptRefIdeal.nD,
      r.2.mem ((c.tc : Thread Cert.FinalPromptRefIdeal.nD Cert.FinalPromptRefIdeal.τ).loc Cert.FinalPromptRefIdeal.main_arg0) = m ((c.tc : Thread Cert.FinalPromptRefIdeal.nD Cert.FinalPromptRefIdeal.τ).loc Cert.FinalPromptRefIdeal.main_arg0)
      ∧ r.2.mem ((c.tc : Thread Cert.FinalPromptRefIdeal.nD Cert.FinalPromptRefIdeal.τ).loc Cert.FinalPromptRefIdeal.main_arg1) = m ((c.tc : Thread Cert.FinalPromptRefIdeal.nD Cert.FinalPromptRefIdeal.τ).loc Cert.FinalPromptRefIdeal.main_arg1))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1))
      ∧ r.2.sem = fun _ => 0)

def quiescent_GlaStep [hGlaStep : Cert.GlaStep.Facts] : Prop :=
  ∀ (m : (ℓ : Loc Cert.GlaStep.nD Cert.GlaStep.τ Cert.GlaStep.sig) → Buf (Elt Bits) ℓ) (g : Dev Cert.GlaStep.nD → PrngReg), Pre_GlaStep m →
    θ_run (Cert.GlaStep.defs (F := Bits)) (onTc (τ := Cert.GlaStep.τ) (Cert.GlaStep.main (F := Bits))) ⟨m, fun _ => 0, g⟩ (fun r => (∀ c : Dev Cert.GlaStep.nD,
      r.2.mem ((c.tc : Thread Cert.GlaStep.nD Cert.GlaStep.τ).loc Cert.GlaStep.main_arg0) = m ((c.tc : Thread Cert.GlaStep.nD Cert.GlaStep.τ).loc Cert.GlaStep.main_arg0)
      ∧ r.2.mem ((c.tc : Thread Cert.GlaStep.nD Cert.GlaStep.τ).loc Cert.GlaStep.main_arg1) = m ((c.tc : Thread Cert.GlaStep.nD Cert.GlaStep.τ).loc Cert.GlaStep.main_arg1)
      ∧ r.2.mem ((c.tc : Thread Cert.GlaStep.nD Cert.GlaStep.τ).loc Cert.GlaStep.main_arg2) = m ((c.tc : Thread Cert.GlaStep.nD Cert.GlaStep.τ).loc Cert.GlaStep.main_arg2)
      ∧ r.2.mem ((c.tc : Thread Cert.GlaStep.nD Cert.GlaStep.τ).loc Cert.GlaStep.main_arg3) = m ((c.tc : Thread Cert.GlaStep.nD Cert.GlaStep.τ).loc Cert.GlaStep.main_arg3)
      ∧ r.2.mem ((c.tc : Thread Cert.GlaStep.nD Cert.GlaStep.τ).loc Cert.GlaStep.main_arg4) = m ((c.tc : Thread Cert.GlaStep.nD Cert.GlaStep.τ).loc Cert.GlaStep.main_arg4))
      ∧ r.2.sem = fun _ => 0)

def quiescent_GlaStepIdeal [hGlaStepIdeal : Cert.GlaStepIdeal.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4))
      ∧ r.2.sem = fun _ => 0)

def quiescent_GlaStepIdeal_pre_finite_gla [hGlaStepIdeal : Cert.GlaStepIdeal.Facts] [hPre_finite_gla : Cert.Pre_finite_gla.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal_finite_gla m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4))
      ∧ r.2.sem = fun _ => 0)

def quiescent_GlaStepRefIdeal [hGlaStepRefIdeal : Cert.GlaStepRefIdeal.Facts] : Prop :=
  ∀ (m : (ℓ : Loc Cert.GlaStepRefIdeal.nD Cert.GlaStepRefIdeal.τ Cert.GlaStepRefIdeal.sig) → Buf (Elt Ideal) ℓ) (g : Dev Cert.GlaStepRefIdeal.nD → PrngReg), Pre_GlaStepRefIdeal m →
    θ_run (Cert.GlaStepRefIdeal.defs (F := Ideal)) (onTc (τ := Cert.GlaStepRefIdeal.τ) (Cert.GlaStepRefIdeal.main (F := Ideal))) ⟨m, fun _ => 0, g⟩ (fun r => (∀ c : Dev Cert.GlaStepRefIdeal.nD,
      r.2.mem ((c.tc : Thread Cert.GlaStepRefIdeal.nD Cert.GlaStepRefIdeal.τ).loc Cert.GlaStepRefIdeal.main_arg0) = m ((c.tc : Thread Cert.GlaStepRefIdeal.nD Cert.GlaStepRefIdeal.τ).loc Cert.GlaStepRefIdeal.main_arg0)
      ∧ r.2.mem ((c.tc : Thread Cert.GlaStepRefIdeal.nD Cert.GlaStepRefIdeal.τ).loc Cert.GlaStepRefIdeal.main_arg1) = m ((c.tc : Thread Cert.GlaStepRefIdeal.nD Cert.GlaStepRefIdeal.τ).loc Cert.GlaStepRefIdeal.main_arg1)
      ∧ r.2.mem ((c.tc : Thread Cert.GlaStepRefIdeal.nD Cert.GlaStepRefIdeal.τ).loc Cert.GlaStepRefIdeal.main_arg2) = m ((c.tc : Thread Cert.GlaStepRefIdeal.nD Cert.GlaStepRefIdeal.τ).loc Cert.GlaStepRefIdeal.main_arg2)
      ∧ r.2.mem ((c.tc : Thread Cert.GlaStepRefIdeal.nD Cert.GlaStepRefIdeal.τ).loc Cert.GlaStepRefIdeal.main_arg3) = m ((c.tc : Thread Cert.GlaStepRefIdeal.nD Cert.GlaStepRefIdeal.τ).loc Cert.GlaStepRefIdeal.main_arg3)
      ∧ r.2.mem ((c.tc : Thread Cert.GlaStepRefIdeal.nD Cert.GlaStepRefIdeal.τ).loc Cert.GlaStepRefIdeal.main_arg4) = m ((c.tc : Thread Cert.GlaStepRefIdeal.nD Cert.GlaStepRefIdeal.τ).loc Cert.GlaStepRefIdeal.main_arg4))
      ∧ r.2.sem = fun _ => 0)

def quiescent_GlaStepRefIdeal_pre_finite_gla [hGlaStepRefIdeal : Cert.GlaStepRefIdeal.Facts] [hPre_finite_gla : Cert.Pre_finite_gla.Facts] : Prop :=
  ∀ (m : (ℓ : Loc Cert.GlaStepRefIdeal.nD Cert.GlaStepRefIdeal.τ Cert.GlaStepRefIdeal.sig) → Buf (Elt Ideal) ℓ) (g : Dev Cert.GlaStepRefIdeal.nD → PrngReg), Pre_GlaStepRefIdeal_finite_gla m →
    θ_run (Cert.GlaStepRefIdeal.defs (F := Ideal)) (onTc (τ := Cert.GlaStepRefIdeal.τ) (Cert.GlaStepRefIdeal.main (F := Ideal))) ⟨m, fun _ => 0, g⟩ (fun r => (∀ c : Dev Cert.GlaStepRefIdeal.nD,
      r.2.mem ((c.tc : Thread Cert.GlaStepRefIdeal.nD Cert.GlaStepRefIdeal.τ).loc Cert.GlaStepRefIdeal.main_arg0) = m ((c.tc : Thread Cert.GlaStepRefIdeal.nD Cert.GlaStepRefIdeal.τ).loc Cert.GlaStepRefIdeal.main_arg0)
      ∧ r.2.mem ((c.tc : Thread Cert.GlaStepRefIdeal.nD Cert.GlaStepRefIdeal.τ).loc Cert.GlaStepRefIdeal.main_arg1) = m ((c.tc : Thread Cert.GlaStepRefIdeal.nD Cert.GlaStepRefIdeal.τ).loc Cert.GlaStepRefIdeal.main_arg1)
      ∧ r.2.mem ((c.tc : Thread Cert.GlaStepRefIdeal.nD Cert.GlaStepRefIdeal.τ).loc Cert.GlaStepRefIdeal.main_arg2) = m ((c.tc : Thread Cert.GlaStepRefIdeal.nD Cert.GlaStepRefIdeal.τ).loc Cert.GlaStepRefIdeal.main_arg2)
      ∧ r.2.mem ((c.tc : Thread Cert.GlaStepRefIdeal.nD Cert.GlaStepRefIdeal.τ).loc Cert.GlaStepRefIdeal.main_arg3) = m ((c.tc : Thread Cert.GlaStepRefIdeal.nD Cert.GlaStepRefIdeal.τ).loc Cert.GlaStepRefIdeal.main_arg3)
      ∧ r.2.mem ((c.tc : Thread Cert.GlaStepRefIdeal.nD Cert.GlaStepRefIdeal.τ).loc Cert.GlaStepRefIdeal.main_arg4) = m ((c.tc : Thread Cert.GlaStepRefIdeal.nD Cert.GlaStepRefIdeal.τ).loc Cert.GlaStepRefIdeal.main_arg4))
      ∧ r.2.sem = fun _ => 0)

def preserves_HgrnStep_HgrnStepIdeal : Prop :=
  True

def algebraic_HgrnStepIdeal_HgrnStepRefIdeal_pre_finite_hgrn [hHgrnStepIdeal : Cert.HgrnStepIdeal.Facts] [hHgrnStepRefIdeal : Cert.HgrnStepRefIdeal.Facts] [hPre_finite_hgrn : Cert.Pre_finite_hgrn.Facts] : Prop :=
  ∀ (m : (ℓ : Loc Cert.HgrnStepIdeal.nD Cert.HgrnStepIdeal.τ Cert.HgrnStepIdeal.sig) → Buf (Elt Ideal) ℓ) (g : Dev Cert.HgrnStepIdeal.nD → PrngReg)
    (m' : (ℓ : Loc Cert.HgrnStepRefIdeal.nD Cert.HgrnStepRefIdeal.τ Cert.HgrnStepRefIdeal.sig) → Buf (Elt Ideal) ℓ) (g' : Dev Cert.HgrnStepRefIdeal.nD → PrngReg), Pre_HgrnStepIdeal_finite_hgrn m →
    (∀ c : Dev Cert.HgrnStepIdeal.nD,
      m' ((c.tc : Thread Cert.HgrnStepRefIdeal.nD Cert.HgrnStepRefIdeal.τ).loc Cert.HgrnStepRefIdeal.main_arg0) = m ((c.tc : Thread Cert.HgrnStepIdeal.nD Cert.HgrnStepIdeal.τ).loc Cert.HgrnStepIdeal.main_arg0)
      ∧ m' ((c.tc : Thread Cert.HgrnStepRefIdeal.nD Cert.HgrnStepRefIdeal.τ).loc Cert.HgrnStepRefIdeal.main_arg1) = m ((c.tc : Thread Cert.HgrnStepIdeal.nD Cert.HgrnStepIdeal.τ).loc Cert.HgrnStepIdeal.main_arg1)
      ∧ m' ((c.tc : Thread Cert.HgrnStepRefIdeal.nD Cert.HgrnStepRefIdeal.τ).loc Cert.HgrnStepRefIdeal.main_arg2) = m ((c.tc : Thread Cert.HgrnStepIdeal.nD Cert.HgrnStepIdeal.τ).loc Cert.HgrnStepIdeal.main_arg2)
      ∧ m' ((c.tc : Thread Cert.HgrnStepRefIdeal.nD Cert.HgrnStepRefIdeal.τ).loc Cert.HgrnStepRefIdeal.main_arg3) = m ((c.tc : Thread Cert.HgrnStepIdeal.nD Cert.HgrnStepIdeal.τ).loc Cert.HgrnStepIdeal.main_arg3)) →
    ∃ (v0 : (c : Dev Cert.HgrnStepIdeal.nD) → Buf (Elt Ideal) ((c.tc : Thread Cert.HgrnStepIdeal.nD Cert.HgrnStepIdeal.τ).loc Cert.HgrnStepIdeal.main_v1_0)) (v1 : (c : Dev Cert.HgrnStepIdeal.nD) → Buf (Elt Ideal) ((c.tc : Thread Cert.HgrnStepIdeal.nD Cert.HgrnStepIdeal.τ).loc Cert.HgrnStepIdeal.main_v1_1)),
      θ_run (Cert.HgrnStepIdeal.defs (F := Ideal)) (onTc (τ := Cert.HgrnStepIdeal.τ) (Cert.HgrnStepIdeal.main (F := Ideal))) ⟨m, fun _ => 0, g⟩ (fun r => ∀ c : Dev Cert.HgrnStepIdeal.nD,
          r.2.mem ((c.tc : Thread Cert.HgrnStepIdeal.nD Cert.HgrnStepIdeal.τ).loc Cert.HgrnStepIdeal.main_v1_0) = v0 c
          ∧ r.2.mem ((c.tc : Thread Cert.HgrnStepIdeal.nD Cert.HgrnStepIdeal.τ).loc Cert.HgrnStepIdeal.main_v1_1) = v1 c
          ∧ r.2.mem ((c.tc : Thread Cert.HgrnStepIdeal.nD Cert.HgrnStepIdeal.τ).loc Cert.HgrnStepIdeal.main_arg0) = m ((c.tc : Thread Cert.HgrnStepIdeal.nD Cert.HgrnStepIdeal.τ).loc Cert.HgrnStepIdeal.main_arg0)
          ∧ r.2.mem ((c.tc : Thread Cert.HgrnStepIdeal.nD Cert.HgrnStepIdeal.τ).loc Cert.HgrnStepIdeal.main_arg1) = m ((c.tc : Thread Cert.HgrnStepIdeal.nD Cert.HgrnStepIdeal.τ).loc Cert.HgrnStepIdeal.main_arg1)
          ∧ r.2.mem ((c.tc : Thread Cert.HgrnStepIdeal.nD Cert.HgrnStepIdeal.τ).loc Cert.HgrnStepIdeal.main_arg2) = m ((c.tc : Thread Cert.HgrnStepIdeal.nD Cert.HgrnStepIdeal.τ).loc Cert.HgrnStepIdeal.main_arg2)
          ∧ r.2.mem ((c.tc : Thread Cert.HgrnStepIdeal.nD Cert.HgrnStepIdeal.τ).loc Cert.HgrnStepIdeal.main_arg3) = m ((c.tc : Thread Cert.HgrnStepIdeal.nD Cert.HgrnStepIdeal.τ).loc Cert.HgrnStepIdeal.main_arg3))
      ∧ θ_run (Cert.HgrnStepRefIdeal.defs (F := Ideal)) (onTc (τ := Cert.HgrnStepRefIdeal.τ) (Cert.HgrnStepRefIdeal.main (F := Ideal))) ⟨m', fun _ => 0, g'⟩ (fun r => ∀ c : Dev Cert.HgrnStepRefIdeal.nD,
          r.2.mem ((c.tc : Thread Cert.HgrnStepRefIdeal.nD Cert.HgrnStepRefIdeal.τ).loc Cert.HgrnStepRefIdeal.main_v102) = v0 c
          ∧ r.2.mem ((c.tc : Thread Cert.HgrnStepRefIdeal.nD Cert.HgrnStepRefIdeal.τ).loc Cert.HgrnStepRefIdeal.main_v84) = v1 c
          ∧ r.2.mem ((c.tc : Thread Cert.HgrnStepRefIdeal.nD Cert.HgrnStepRefIdeal.τ).loc Cert.HgrnStepRefIdeal.main_arg0) = m' ((c.tc : Thread Cert.HgrnStepRefIdeal.nD Cert.HgrnStepRefIdeal.τ).loc Cert.HgrnStepRefIdeal.main_arg0)
          ∧ r.2.mem ((c.tc : Thread Cert.HgrnStepRefIdeal.nD Cert.HgrnStepRefIdeal.τ).loc Cert.HgrnStepRefIdeal.main_arg1) = m' ((c.tc : Thread Cert.HgrnStepRefIdeal.nD Cert.HgrnStepRefIdeal.τ).loc Cert.HgrnStepRefIdeal.main_arg1)
          ∧ r.2.mem ((c.tc : Thread Cert.HgrnStepRefIdeal.nD Cert.HgrnStepRefIdeal.τ).loc Cert.HgrnStepRefIdeal.main_arg2) = m' ((c.tc : Thread Cert.HgrnStepRefIdeal.nD Cert.HgrnStepRefIdeal.τ).loc Cert.HgrnStepRefIdeal.main_arg2)
          ∧ r.2.mem ((c.tc : Thread Cert.HgrnStepRefIdeal.nD Cert.HgrnStepRefIdeal.τ).loc Cert.HgrnStepRefIdeal.main_arg3) = m' ((c.tc : Thread Cert.HgrnStepRefIdeal.nD Cert.HgrnStepRefIdeal.τ).loc Cert.HgrnStepRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v18) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FinalPrompt_FinalPromptIdeal : Prop :=
  True

def algebraic_FinalPromptIdeal_FinalPromptRefIdeal [hFinalPromptIdeal : Cert.FinalPromptIdeal.Facts] [hFinalPromptRefIdeal : Cert.FinalPromptRefIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.FinalPromptRefIdeal.nD Cert.FinalPromptRefIdeal.τ Cert.FinalPromptRefIdeal.sig) → Buf (Elt Ideal) ℓ) (g' : Dev Cert.FinalPromptRefIdeal.nD → PrngReg), Pre_FinalPromptIdeal m →
    (∀ c : Dev Cert.FinalPromptIdeal.nD,
      m' ((c.tc : Thread Cert.FinalPromptRefIdeal.nD Cert.FinalPromptRefIdeal.τ).loc Cert.FinalPromptRefIdeal.main_arg0) = m ((c.tc : Thread Cert.FinalPromptIdeal.nD Cert.FinalPromptIdeal.τ).loc Cert.FinalPromptIdeal.main_arg0)
      ∧ m' ((c.tc : Thread Cert.FinalPromptRefIdeal.nD Cert.FinalPromptRefIdeal.τ).loc Cert.FinalPromptRefIdeal.main_arg1) = m ((c.tc : Thread Cert.FinalPromptIdeal.nD Cert.FinalPromptIdeal.τ).loc Cert.FinalPromptIdeal.main_arg1)) →
    ∃ (v0 : (c : Dev Cert.FinalPromptIdeal.nD) → Buf (Elt Ideal) ((c.tc : Thread Cert.FinalPromptIdeal.nD Cert.FinalPromptIdeal.τ).loc Cert.FinalPromptIdeal.main_v1)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v1) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ θ_run (Cert.FinalPromptRefIdeal.defs (F := Ideal)) (onTc (τ := Cert.FinalPromptRefIdeal.τ) (Cert.FinalPromptRefIdeal.main (F := Ideal))) ⟨m', fun _ => 0, g'⟩ (fun r => ∀ c : Dev Cert.FinalPromptRefIdeal.nD,
          r.2.mem ((c.tc : Thread Cert.FinalPromptRefIdeal.nD Cert.FinalPromptRefIdeal.τ).loc Cert.FinalPromptRefIdeal.main_v15) = v0 c
          ∧ r.2.mem ((c.tc : Thread Cert.FinalPromptRefIdeal.nD Cert.FinalPromptRefIdeal.τ).loc Cert.FinalPromptRefIdeal.main_arg0) = m' ((c.tc : Thread Cert.FinalPromptRefIdeal.nD Cert.FinalPromptRefIdeal.τ).loc Cert.FinalPromptRefIdeal.main_arg0)
          ∧ r.2.mem ((c.tc : Thread Cert.FinalPromptRefIdeal.nD Cert.FinalPromptRefIdeal.τ).loc Cert.FinalPromptRefIdeal.main_arg1) = m' ((c.tc : Thread Cert.FinalPromptRefIdeal.nD Cert.FinalPromptRefIdeal.τ).loc Cert.FinalPromptRefIdeal.main_arg1))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)) →
    ∃ (v0 : (c : Dev Cert.FinalSampleIdeal.nD) → Buf (Elt Ideal) ((c.tc : Thread Cert.FinalSampleIdeal.nD Cert.FinalSampleIdeal.τ).loc Cert.FinalSampleIdeal.main_v1)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v1) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v13) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1))

def preserves_GlaStep_GlaStepIdeal : Prop :=
  True

def algebraic_GlaStepIdeal_GlaStepRefIdeal_pre_finite_gla [hGlaStepIdeal : Cert.GlaStepIdeal.Facts] [hGlaStepRefIdeal : Cert.GlaStepRefIdeal.Facts] [hPre_finite_gla : Cert.Pre_finite_gla.Facts] : Prop :=
  ∀ (m : (ℓ : Loc Cert.GlaStepIdeal.nD Cert.GlaStepIdeal.τ Cert.GlaStepIdeal.sig) → Buf (Elt Ideal) ℓ) (g : Dev Cert.GlaStepIdeal.nD → PrngReg)
    (m' : (ℓ : Loc Cert.GlaStepRefIdeal.nD Cert.GlaStepRefIdeal.τ Cert.GlaStepRefIdeal.sig) → Buf (Elt Ideal) ℓ) (g' : Dev Cert.GlaStepRefIdeal.nD → PrngReg), Pre_GlaStepIdeal_finite_gla m →
    (∀ c : Dev Cert.GlaStepIdeal.nD,
      m' ((c.tc : Thread Cert.GlaStepRefIdeal.nD Cert.GlaStepRefIdeal.τ).loc Cert.GlaStepRefIdeal.main_arg0) = m ((c.tc : Thread Cert.GlaStepIdeal.nD Cert.GlaStepIdeal.τ).loc Cert.GlaStepIdeal.main_arg0)
      ∧ m' ((c.tc : Thread Cert.GlaStepRefIdeal.nD Cert.GlaStepRefIdeal.τ).loc Cert.GlaStepRefIdeal.main_arg1) = m ((c.tc : Thread Cert.GlaStepIdeal.nD Cert.GlaStepIdeal.τ).loc Cert.GlaStepIdeal.main_arg1)
      ∧ m' ((c.tc : Thread Cert.GlaStepRefIdeal.nD Cert.GlaStepRefIdeal.τ).loc Cert.GlaStepRefIdeal.main_arg2) = m ((c.tc : Thread Cert.GlaStepIdeal.nD Cert.GlaStepIdeal.τ).loc Cert.GlaStepIdeal.main_arg2)
      ∧ m' ((c.tc : Thread Cert.GlaStepRefIdeal.nD Cert.GlaStepRefIdeal.τ).loc Cert.GlaStepRefIdeal.main_arg3) = m ((c.tc : Thread Cert.GlaStepIdeal.nD Cert.GlaStepIdeal.τ).loc Cert.GlaStepIdeal.main_arg3)
      ∧ m' ((c.tc : Thread Cert.GlaStepRefIdeal.nD Cert.GlaStepRefIdeal.τ).loc Cert.GlaStepRefIdeal.main_arg4) = m ((c.tc : Thread Cert.GlaStepIdeal.nD Cert.GlaStepIdeal.τ).loc Cert.GlaStepIdeal.main_arg4)) →
    ∃ (v0 : (c : Dev Cert.GlaStepIdeal.nD) → Buf (Elt Ideal) ((c.tc : Thread Cert.GlaStepIdeal.nD Cert.GlaStepIdeal.τ).loc Cert.GlaStepIdeal.main_v3_0)) (v1 : (c : Dev Cert.GlaStepIdeal.nD) → Buf (Elt Ideal) ((c.tc : Thread Cert.GlaStepIdeal.nD Cert.GlaStepIdeal.τ).loc Cert.GlaStepIdeal.main_v3_1)),
      θ_run (Cert.GlaStepIdeal.defs (F := Ideal)) (onTc (τ := Cert.GlaStepIdeal.τ) (Cert.GlaStepIdeal.main (F := Ideal))) ⟨m, fun _ => 0, g⟩ (fun r => ∀ c : Dev Cert.GlaStepIdeal.nD,
          r.2.mem ((c.tc : Thread Cert.GlaStepIdeal.nD Cert.GlaStepIdeal.τ).loc Cert.GlaStepIdeal.main_v3_0) = v0 c
          ∧ r.2.mem ((c.tc : Thread Cert.GlaStepIdeal.nD Cert.GlaStepIdeal.τ).loc Cert.GlaStepIdeal.main_v3_1) = v1 c
          ∧ r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
          ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
          ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
          ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
          ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4))
      ∧ θ_run (Cert.GlaStepRefIdeal.defs (F := Ideal)) (onTc (τ := Cert.GlaStepRefIdeal.τ) (Cert.GlaStepRefIdeal.main (F := Ideal))) ⟨m', fun _ => 0, g'⟩ (fun r => ∀ c : Dev Cert.GlaStepRefIdeal.nD,
          r.2.mem ((c.tc : Thread Cert.GlaStepRefIdeal.nD Cert.GlaStepRefIdeal.τ).loc Cert.GlaStepRefIdeal.main_v61) = v0 c
          ∧ r.2.mem ((c.tc : Thread Cert.GlaStepRefIdeal.nD Cert.GlaStepRefIdeal.τ).loc Cert.GlaStepRefIdeal.main_v43) = v1 c
          ∧ r.2.mem ((c.tc : Thread Cert.GlaStepRefIdeal.nD Cert.GlaStepRefIdeal.τ).loc Cert.GlaStepRefIdeal.main_arg0) = m' ((c.tc : Thread Cert.GlaStepRefIdeal.nD Cert.GlaStepRefIdeal.τ).loc Cert.GlaStepRefIdeal.main_arg0)
          ∧ r.2.mem ((c.tc : Thread Cert.GlaStepRefIdeal.nD Cert.GlaStepRefIdeal.τ).loc Cert.GlaStepRefIdeal.main_arg1) = m' ((c.tc : Thread Cert.GlaStepRefIdeal.nD Cert.GlaStepRefIdeal.τ).loc Cert.GlaStepRefIdeal.main_arg1)
          ∧ r.2.mem ((c.tc : Thread Cert.GlaStepRefIdeal.nD Cert.GlaStepRefIdeal.τ).loc Cert.GlaStepRefIdeal.main_arg2) = m' ((c.tc : Thread Cert.GlaStepRefIdeal.nD Cert.GlaStepRefIdeal.τ).loc Cert.GlaStepRefIdeal.main_arg2)
          ∧ r.2.mem ((c.tc : Thread Cert.GlaStepRefIdeal.nD Cert.GlaStepRefIdeal.τ).loc Cert.GlaStepRefIdeal.main_arg3) = m' ((c.tc : Thread Cert.GlaStepRefIdeal.nD Cert.GlaStepRefIdeal.τ).loc Cert.GlaStepRefIdeal.main_arg3)
          ∧ r.2.mem ((c.tc : Thread Cert.GlaStepRefIdeal.nD Cert.GlaStepRefIdeal.τ).loc Cert.GlaStepRefIdeal.main_arg4) = m' ((c.tc : Thread Cert.GlaStepRefIdeal.nD Cert.GlaStepRefIdeal.τ).loc Cert.GlaStepRefIdeal.main_arg4))

def Claim : Prop :=
  ∃ (hHgrnStep : Cert.HgrnStep.Facts) (hHgrnStepIdeal : Cert.HgrnStepIdeal.Facts) (hHgrnStepRefIdeal : Cert.HgrnStepRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFinalPrompt : Cert.FinalPrompt.Facts) (hFinalPromptIdeal : Cert.FinalPromptIdeal.Facts) (hFinalPromptRefIdeal : Cert.FinalPromptRefIdeal.Facts) (hFinalSample : Cert.FinalSample.Facts) (hFinalSampleIdeal : Cert.FinalSampleIdeal.Facts) (hFinalSampleRefIdeal : Cert.FinalSampleRefIdeal.Facts) (hGlaStep : Cert.GlaStep.Facts) (hGlaStepIdeal : Cert.GlaStepIdeal.Facts) (hGlaStepRefIdeal : Cert.GlaStepRefIdeal.Facts) (hPre_finite_hgrn : Cert.Pre_finite_hgrn.Facts) (hPre_finite_gla : Cert.Pre_finite_gla.Facts),
    quiescent_HgrnStep (hHgrnStep := hHgrnStep)
    ∧ quiescent_HgrnStepIdeal (hHgrnStepIdeal := hHgrnStepIdeal)
    ∧ quiescent_HgrnStepIdeal_pre_finite_hgrn (hHgrnStepIdeal := hHgrnStepIdeal) (hPre_finite_hgrn := hPre_finite_hgrn)
    ∧ quiescent_HgrnStepRefIdeal (hHgrnStepRefIdeal := hHgrnStepRefIdeal)
    ∧ quiescent_HgrnStepRefIdeal_pre_finite_hgrn (hHgrnStepRefIdeal := hHgrnStepRefIdeal) (hPre_finite_hgrn := hPre_finite_hgrn)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalPrompt (hFinalPrompt := hFinalPrompt)
    ∧ quiescent_FinalPromptIdeal (hFinalPromptIdeal := hFinalPromptIdeal)
    ∧ quiescent_FinalPromptRefIdeal (hFinalPromptRefIdeal := hFinalPromptRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ quiescent_GlaStep (hGlaStep := hGlaStep)
    ∧ quiescent_GlaStepIdeal (hGlaStepIdeal := hGlaStepIdeal)
    ∧ quiescent_GlaStepIdeal_pre_finite_gla (hGlaStepIdeal := hGlaStepIdeal) (hPre_finite_gla := hPre_finite_gla)
    ∧ quiescent_GlaStepRefIdeal (hGlaStepRefIdeal := hGlaStepRefIdeal)
    ∧ quiescent_GlaStepRefIdeal_pre_finite_gla (hGlaStepRefIdeal := hGlaStepRefIdeal) (hPre_finite_gla := hPre_finite_gla)
    ∧ preserves_HgrnStep_HgrnStepIdeal
    ∧ algebraic_HgrnStepIdeal_HgrnStepRefIdeal_pre_finite_hgrn (hHgrnStepIdeal := hHgrnStepIdeal) (hHgrnStepRefIdeal := hHgrnStepRefIdeal) (hPre_finite_hgrn := hPre_finite_hgrn)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FinalPrompt_FinalPromptIdeal
    ∧ algebraic_FinalPromptIdeal_FinalPromptRefIdeal (hFinalPromptIdeal := hFinalPromptIdeal) (hFinalPromptRefIdeal := hFinalPromptRefIdeal)
    ∧ preserves_FinalSample_FinalSampleIdeal
    ∧ algebraic_FinalSampleIdeal_FinalSampleRefIdeal (hFinalSampleIdeal := hFinalSampleIdeal) (hFinalSampleRefIdeal := hFinalSampleRefIdeal)
    ∧ preserves_GlaStep_GlaStepIdeal
    ∧ algebraic_GlaStepIdeal_GlaStepRefIdeal_pre_finite_gla (hGlaStepIdeal := hGlaStepIdeal) (hGlaStepRefIdeal := hGlaStepRefIdeal) (hPre_finite_gla := hPre_finite_gla)
-- ==== Pre_finite_gla.lean ====
abbrev S8320x16384 : Shape := ⟨2, ![8320, 16384]⟩
abbrev S128x4x128x256 : Shape := ⟨4, ![128, 4, 128, 256]⟩
abbrev S16x512 : Shape := ⟨2, ![16, 512]⟩
abbrev S512 : Shape := ⟨1, ![512]⟩
abbrev S256 : Shape := ⟨1, ![256]⟩
abbrev S_ : Shape := ⟨0, ![]⟩

class Facts : Prop where
  bcast_S_S8320x16384 : S_.BroadcastsInDim S8320x16384 (![] : Fin 0 → Fin S8320x16384.rank)
  reducesTo_S8320x16384_S_d0_1 : S8320x16384.ReducesTo [0, 1] S_
  h_S_ : 0 < S_.numel
  bcast_S_S128x4x128x256 : S_.BroadcastsInDim S128x4x128x256 (![] : Fin 0 → Fin S128x4x128x256.rank)
  reducesTo_S128x4x128x256_S_d0_1_2_3 : S128x4x128x256.ReducesTo [0, 1, 2, 3] S_
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8320x16384 .f32) (main_arg1 : FVec F S128x4x128x256 .f32) (main_arg2 : FVec F S16x512 .f32) (main_arg3 : FVec F S512 .f32) (main_arg4 : FVec F S256 .f32) : IVec S_ 1 :=
  let main_v0 : FVec F S8320x16384 .f32 := Host.absf main_arg0
  let main_cst : FVec F S_ .f32 := constant S_ .f32 0x7F800000#32
  let main_v1 : FVec F S8320x16384 .f32 := broadcastInDim S8320x16384 ![] bcast_S_S8320x16384 main_cst
  let main_v2 : IVec S8320x16384 1 := cmpf .olt main_v0 main_v1
  let main_c : IVec S_ 1 := constantI S_ 1 1#1
  let main_v3 : IVec S_ 1 := (fun x v => Host.reduce IntOp.andi x v reducesTo_S8320x16384_S_d0_1 h_S_) main_v2 main_c
  let main_v4 : FVec F S128x4x128x256 .f32 := Host.absf main_arg1
  let main_cst_0 : FVec F S_ .f32 := constant S_ .f32 0x7F800000#32
  let main_v5 : FVec F S128x4x128x256 .f32 := broadcastInDim S128x4x128x256 ![] bcast_S_S128x4x128x256 main_cst_0
  let main_v6 : IVec S128x4x128x256 1 := cmpf .olt main_v4 main_v5
  let main_c_1 : IVec S_ 1 := constantI S_ 1 1#1
  let main_v7 : IVec S_ 1 := (fun x v => Host.reduce IntOp.andi x v reducesTo_S128x4x128x256_S_d0_1_2_3 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Pre_finite_hgrn.lean ====
abbrev S8320x16384 : Shape := ⟨2, ![8320, 16384]⟩
abbrev S128x8x128x128 : Shape := ⟨4, ![128, 8, 128, 128]⟩
abbrev S2x1024 : Shape := ⟨2, ![2, 1024]⟩
abbrev S128 : Shape := ⟨1, ![128]⟩
abbrev S_ : Shape := ⟨0, ![]⟩

class Facts : Prop where
  bcast_S_S8320x16384 : S_.BroadcastsInDim S8320x16384 (![] : Fin 0 → Fin S8320x16384.rank)
  reducesTo_S8320x16384_S_d0_1 : S8320x16384.ReducesTo [0, 1] S_
  h_S_ : 0 < S_.numel
  bcast_S_S128x8x128x128 : S_.BroadcastsInDim S128x8x128x128 (![] : Fin 0 → Fin S128x8x128x128.rank)
  reducesTo_S128x8x128x128_S_d0_1_2_3 : S128x8x128x128.ReducesTo [0, 1, 2, 3] S_
  bcast_S_S2x1024 : S_.BroadcastsInDim S2x1024 (![] : Fin 0 → Fin S2x1024.rank)
  reducesTo_S2x1024_S_d0_1 : S2x1024.ReducesTo [0, 1] S_

variable [Facts]

def fn {F : FTy → Type} [FloatOps F] (main_arg0 : FVec F S8320x16384 .f32) (main_arg1 : FVec F S128x8x128x128 .f32) (main_arg2 : FVec F S2x1024 .f32) (main_arg3 : FVec F S128 .f32) : IVec S_ 1 :=
  let main_v0 : FVec F S8320x16384 .f32 := Host.absf main_arg0
  let main_cst : FVec F S_ .f32 := constant S_ .f32 0x7F800000#32
  let main_v1 : FVec F S8320x16384 .f32 := broadcastInDim S8320x16384 ![] bcast_S_S8320x16384 main_cst
  let main_v2 : IVec S8320x16384 1 := cmpf .olt main_v0 main_v1
  let main_c : IVec S_ 1 := constantI S_ 1 1#1
  let main_v3 : IVec S_ 1 := (fun x v => Host.reduce IntOp.andi x v reducesTo_S8320x16384_S_d0_1 h_S_) main_v2 main_c
  let main_v4 : FVec F S128x8x128x128 .f32 := Host.absf main_arg1
  let main_cst_0 : FVec F S_ .f32 := constant S_ .f32 0x7F800000#32
  let main_v5 : FVec F S128x8x128x128 .f32 := broadcastInDim S128x8x128x128 ![] bcast_S_S128x8x128x128 main_cst_0
  let main_v6 : IVec S128x8x128x128 1 := cmpf .olt main_v4 main_v5
  let main_c_1 : IVec S_ 1 := constantI S_ 1 1#1
  let main_v7 : IVec S_ 1 := (fun x v => Host.reduce IntOp.andi x v reducesTo_S128x8x128x128_S_d0_1_2_3 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  main_v13
-- ==== HgrnStep.lean ====
abbrev S8320x16384 : Shape := ⟨2, ![8320, 16384]⟩
abbrev S128x8x128x128 : Shape := ⟨4, ![128, 8, 128, 128]⟩
abbrev S2x1024 : Shape := ⟨2, ![2, 1024]⟩
abbrev S128 : Shape := ⟨1, ![128]⟩
abbrev S1x128 : Shape := ⟨2, ![1, 128]⟩
abbrev S128x1024 : Shape := ⟨2, ![128, 1024]⟩
abbrev S16x128 : Shape := ⟨2, ![16, 128]⟩
abbrev S2x128 : Shape := ⟨2, ![2, 128]⟩
abbrev S16x1x128x128 : Shape := ⟨4, ![16, 1, 128, 128]⟩
abbrev S112x128 : Shape := ⟨2, ![112, 128]⟩
abbrev S128x128 : Shape := ⟨2, ![128, 128]⟩
abbrev S128x1 : Shape := ⟨2, ![128, 1]⟩
abbrev S1x1x128x128 : Shape := ⟨4, ![1, 1, 128, 128]⟩
abbrev S16 : Shape := ⟨1, ![16]⟩
abbrev S16x1 : Shape := ⟨2, ![16, 1]⟩

abbrev nBuf : Space → Nat
  | .hbm => 7
  | .vmem => 17
  | .smem => 0
  | _ => 0

abbrev bufTy : (tb : Table) → Fin (tcTables nBuf tb) → BufTy
  | .hbm, ⟨0, _⟩ => ⟨S8320x16384, .f32⟩
  | .hbm, ⟨1, _⟩ => ⟨S128x8x128x128, .f32⟩
  | .hbm, ⟨2, _⟩ => ⟨S2x1024, .f32⟩
  | .hbm, ⟨3, _⟩ => ⟨S128, .f32⟩
  | .hbm, ⟨4, _⟩ => ⟨S1x128, .f32⟩
  | .hbm, ⟨5, _⟩ => ⟨S128x1024, .bf16⟩
  | .hbm, ⟨6, _⟩ => ⟨S128x8x128x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S2x128, .f32⟩
  | .local _ .vmem, ⟨7, _⟩ => ⟨S2x128, .f32⟩
  | .local _ .vmem, ⟨8, _⟩ => ⟨S16x128, .f32⟩
  | .local _ .vmem, ⟨9, _⟩ => ⟨S16x128, .f32⟩
  | .local _ .vmem, ⟨10, _⟩ => ⟨S1x128, .f32⟩
  | .local _ .vmem, ⟨11, _⟩ => ⟨S16x1x128x128, .f32⟩
  | .local _ .vmem, ⟨12, _⟩ => ⟨S16x1x128x128, .f32⟩
  | .local _ .vmem, ⟨13, _⟩ => ⟨S16x128, .bf16⟩
  | .local _ .vmem, ⟨14, _⟩ => ⟨S16x128, .bf16⟩
  | .local _ .vmem, ⟨15, _⟩ => ⟨S16x1x128x128, .f32⟩
  | .local _ .vmem, ⟨16, _⟩ => ⟨S16x1x128x128, .f32⟩
  | _, _ => ⟨S8320x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c20_i32 : BitVec 32 := 20#32
  let v1 : BitVec 32 := Scalar.addi c20_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c28_i32 : BitVec 32 := 28#32
  let v1 : BitVec 32 := Scalar.addi c28_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c36_i32 : BitVec 32 := 36#32
  let v1 : BitVec 32 := Scalar.addi c36_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c44_i32 : BitVec 32 := 44#32
  let v1 : BitVec 32 := Scalar.addi c44_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== HgrnStepRefIdeal.lean ====
abbrev S8320x16384 : Shape := ⟨2, ![8320, 16384]⟩
abbrev S128x8x128x128 : Shape := ⟨4, ![128, 8, 128, 128]⟩
abbrev S2x1024 : Shape := ⟨2, ![2, 1024]⟩
abbrev S128 : Shape := ⟨1, ![128]⟩
abbrev S128x16384 : Shape := ⟨2, ![128, 16384]⟩
abbrev S128x1024 : Shape := ⟨2, ![128, 1024]⟩
abbrev S_ : Shape := ⟨0, ![]⟩
abbrev S1024 : Shape := ⟨1, ![1024]⟩
abbrev S1x1024 : Shape := ⟨2, ![1, 1024]⟩
abbrev S128x8x128 : Shape := ⟨3, ![128, 8, 128]⟩
abbrev S128x8 : Shape := ⟨2, ![128, 8]⟩
abbrev S128x8x1 : Shape := ⟨3, ![128, 8, 1]⟩
abbrev S128x8x128x1 : Shape := ⟨4, ![128, 8, 128, 1]⟩
abbrev S128x8x1x128 : Shape := ⟨4, ![128, 8, 1, 128]⟩
abbrev S1x1x128 : Shape := ⟨3, ![1, 1, 128]⟩

abbrev nBuf : Space → Nat
  | .hbm => 138
  | .vmem => 0
  | .smem => 0
  | _ => 0

abbrev hbmTy0_0 (i : Nat) : BufTy := match i % 128 with
  | 0 => ⟨S8320x16384, .f32⟩
  | 1 => ⟨S128x8x128x128, .f32⟩
  | 2 => ⟨S2x1024, .f32⟩
  | 3 => ⟨S128, .f32⟩
  | 4 => ⟨S128x16384, .f32⟩
  | 5 => ⟨S128x1024, .f32⟩
  | 6 => ⟨S128x1024, .f32⟩
  | 7 => ⟨S128x1024, .f32⟩
  | 8 => ⟨S128x1024, .f32⟩
  | 9 => ⟨S_, .f32⟩
  | 10 => ⟨S1024, .f32⟩
  | 11 => ⟨S_, .f32⟩
  | 12 => ⟨S1024, .f32⟩
  | 13 => ⟨S1024, .f32⟩
  | 14 => ⟨S1x1024, .f32⟩
  | 15 => ⟨S2x1024, .f32⟩
  | 16 => ⟨S2x1024, .f32⟩
  | 17 => ⟨S2x1024, .f32⟩
  | 18 => ⟨S_, .f32⟩
  | 19 => ⟨S1024, .f32⟩
  | 20 => ⟨S1x1024, .f32⟩
  | 21 => ⟨S2x1024, .f32⟩
  | 22 => ⟨S2x1024, .f32⟩
  | 23 => ⟨S1x1024, .f32⟩
  | 24 => ⟨S1024, .f32⟩
  | 25 => ⟨S1x1024, .f32⟩
  | 26 => ⟨S1024, .f32⟩
  | 27 => ⟨S1024, .f32⟩
  | 28 => ⟨S1x1024, .f32⟩
  | 29 => ⟨S1024, .f32⟩
  | 30 => ⟨S1024, .f32⟩
  | 31 => ⟨S128x1024, .f32⟩
  | 32 => ⟨S128x1024, .f32⟩
  | 33 => ⟨S_, .f32⟩
  | 34 => ⟨S128x1024, .f32⟩
  | 35 => ⟨S128x1024, .f32⟩
  | 36 => ⟨S_, .f32⟩
  | 37 => ⟨S128x1024, .f32⟩
  | 38 => ⟨S128x1024, .f32⟩
  | 39 => ⟨S128x1024, .f32⟩
  | 40 => ⟨S128x8x128, .f32⟩
  | 41 => ⟨S_, .f32⟩
  | 42 => ⟨S128x8x128, .f32⟩
  | 43 => ⟨S128x8x128, .f32⟩
  | 44 => ⟨S_, .f32⟩
  | 45 => ⟨S1024, .f32⟩
  | 46 => ⟨S1024, .f32⟩
  | 47 => ⟨S128x1024, .f32⟩
  | 48 => ⟨S128x1024, .f32⟩
  | 49 => ⟨S_, .f32⟩
  | 50 => ⟨S128x1024, .f32⟩
  | 51 => ⟨S128x1024, .f32⟩
  | 52 => ⟨S_, .f32⟩
  | 53 => ⟨S128x1024, .f32⟩
  | 54 => ⟨S128x1024, .f32⟩
  | 55 => ⟨S1x1024, .f32⟩
  | 56 => ⟨S128x1024, .f32⟩
  | 57 => ⟨S128x1024, .f32⟩
  | 58 => ⟨S1x1024, .f32⟩
  | 59 => ⟨S128x1024, .f32⟩
  | 60 => ⟨S128x1024, .f32⟩
  | 61 => ⟨S_, .f32⟩
  | 62 => ⟨S128x1024, .f32⟩
  | 63 => ⟨S128x1024, .f32⟩
  | 64 => ⟨S128x1024, .f32⟩
  | 65 => ⟨S_, .f32⟩
  | 66 => ⟨S1024, .f32⟩
  | 67 => ⟨S1024, .f32⟩
  | 68 => ⟨S128x1024, .f32⟩
  | 69 => ⟨S128x1024, .f32⟩
  | 70 => ⟨S128x1024, .f32⟩
  | 71 => ⟨S_, .f32⟩
  | 72 => ⟨S128x1024, .f32⟩
  | 73 => ⟨S128x1024, .f32⟩
  | 74 => ⟨S_, .f32⟩
  | 75 => ⟨S128x1024, .f32⟩
  | 76 => ⟨S128x1024, .f32⟩
  | 77 => ⟨S1x1024, .f32⟩
  | 78 => ⟨S128x1024, .f32⟩
  | 79 => ⟨S128x1024, .f32⟩
  | 80 => ⟨S128x8x128, .f32⟩
  | 81 => ⟨S128x8x128, .f32⟩
  | 82 => ⟨S128x8x128, .f32⟩
  | 83 => ⟨S128x8x128, .f32⟩
  | 84 => ⟨S128x8x128, .f32⟩
  | 85 => ⟨S128x8x128, .f32⟩
  | 86 => ⟨S128x8x128, .f32⟩
  | 87 => ⟨S_, .f32⟩
  | 88 => ⟨S128x8, .f32⟩
  | 89 => ⟨S128x8x1, .f32⟩
  | 90 => ⟨S128x8x128, .f32⟩
  | 91 => ⟨S128x8x128, .f32⟩
  | 92 => ⟨S128x8x128, .f32⟩
  | 93 => ⟨S128x8x128, .f32⟩
  | 94 => ⟨S128x8x128, .f32⟩
  | 95 => ⟨S128x8x128, .f32⟩
  | 96 => ⟨S128x8x128, .f32⟩
  | 97 => ⟨S128x8x128x1, .f32⟩
  | 98 => ⟨S128x8x128x128, .f32⟩
  | 99 => ⟨S128x8x128x128, .f32⟩
  | 100 => ⟨S128x8x128, .f32⟩
  | 101 => ⟨S128x8x128, .f32⟩
  | 102 => ⟨S128x8x128, .f32⟩
  | 103 => ⟨S128x8x128x1, .f32⟩
  | 104 => ⟨S128x8x1x128, .f32⟩
  | 105 => ⟨S128x8x128x128, .f32⟩
  | 106 => ⟨S128x8x128x128, .f32⟩
  | 107 => ⟨S128x8x128x128, .f32⟩
  | 108 => ⟨S128x8x128x128, .f32⟩
  | 109 => ⟨S128x8x128, .f32⟩
  | 110 => ⟨S_, .f32⟩
  | 111 => ⟨S128x8, .f32⟩
  | 112 => ⟨S128x8x1, .f32⟩
  | 113 => ⟨S_, .f32⟩
  | 114 => ⟨S128x8x1, .f32⟩
  | 115 => ⟨S128x8x1, .f32⟩
  | 116 => ⟨S_, .f32⟩
  | 117 => ⟨S128x8x1, .f32⟩
  | 118 => ⟨S128x8x1, .f32⟩
  | 119 => ⟨S128x8x1, .f32⟩
  | 120 => ⟨S128x8x128, .f32⟩
  | 121 => ⟨S128x8x128, .f32⟩
  | 122 => ⟨S1x1x128, .f32⟩
  | 123 => ⟨S128x8x128, .f32⟩
  | 124 => ⟨S128x8x128, .f32⟩
  | 125 => ⟨S128x1024, .f32⟩
  | 126 => ⟨S128x1024, .f32⟩
  | 127 => ⟨S_, .f32⟩
  | _ => ⟨S8320x16384, .f32⟩

abbrev hbmTy0_1 (i : Nat) : BufTy := match i % 128 with
  | 0 => ⟨S128x1024, .f32⟩
  | 1 => ⟨S128x1024, .f32⟩
  | 2 => ⟨S_, .f32⟩
  | 3 => ⟨S128x1024, .f32⟩
  | 4 => ⟨S128x1024, .f32⟩
  | 5 => ⟨S128x1024, .f32⟩
  | 6 => ⟨S128x8x128, .f32⟩
  | 7 => ⟨S128x8x128, .f32⟩
  | 8 => ⟨S128x1024, .f32⟩
  | 9 => ⟨S128x1024, .bf16⟩
  | _ => ⟨S8320x16384, .f32⟩

abbrev hbmTy (i : Nat) : BufTy := match i / 128 with
  | 0 => hbmTy0_0 i
  | 1 => hbmTy0_1 i
  | _ => ⟨S8320x16384, .f32⟩

abbrev bufTy : (tb : Table) → Fin (tcTables nBuf tb) → BufTy
  | .hbm, ⟨i, _⟩ => hbmTy i
  | _, _ => ⟨S8320x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_11 : Ref sig .tc := ⟨.hbm, 110, rfl⟩
abbrev main_v86 : Ref sig .tc := ⟨.hbm, 111, rfl⟩
abbrev main_v87 : Ref sig .tc := ⟨.hbm, 112, rfl⟩
abbrev main_cst_12 : Ref sig .tc := ⟨.hbm, 113, rfl⟩
abbrev main_v88 : Ref sig .tc := ⟨.hbm, 114, rfl⟩
abbrev main_v89 : Ref sig .tc := ⟨.hbm, 115, rfl⟩
abbrev main_cst_13 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]
-- ==== FfnUp.lean ====
abbrev S8320x2048 : Shape := ⟨2, ![8320, 2048]⟩
abbrev S2048 : Shape := ⟨1, ![2048]⟩
abbrev S2048x11264 : Shape := ⟨2, ![2048, 11264]⟩
abbrev S1x2048 : Shape := ⟨2, ![1, 2048]⟩
abbrev S8320x5632 : Shape := ⟨2, ![8320, 5632]⟩
abbrev S1040x2048 : Shape := ⟨2, ![1040, 2048]⟩
abbrev S2048x512 : Shape := ⟨2, ![2048, 512]⟩
abbrev S1040x512 : Shape := ⟨2, ![1040, 512]⟩
abbrev S1040 : Shape := ⟨1, ![1040]⟩
abbrev S1040x1 : Shape := ⟨2, ![1040, 1]⟩

abbrev nBuf : Space → Nat
  | .hbm => 6
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x11264, .f32⟩
  | .hbm, ⟨3, _⟩ => ⟨S2048x11264, .bf16⟩
  | .hbm, ⟨4, _⟩ => ⟨S1x2048, .f32⟩
  | .hbm, ⟨5, _⟩ => ⟨S8320x5632, .bf16⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1040x512, .bf16⟩
  | .local _ .vmem, ⟨8, _⟩ => ⟨S1040x512, .bf16⟩
  | .local _ .vmem, ⟨9, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S8320x2048 : Shape := ⟨2, ![8320, 2048]⟩
abbrev S2048 : Shape := ⟨1, ![2048]⟩
abbrev S2048x11264 : Shape := ⟨2, ![2048, 11264]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x11264 : Shape := ⟨2, ![8320, 11264]⟩
abbrev S8320x5632 : Shape := ⟨2, ![8320, 5632]⟩

abbrev nBuf : Space → Nat
  | .hbm => 33
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x11264, .f32⟩
  | .hbm, ⟨3, _⟩ => ⟨S8320x2048, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x2048, .f32⟩
  | .hbm, ⟨15, _⟩ => ⟨S8320x2048, .f32⟩
  | .hbm, ⟨16, _⟩ => ⟨S1x2048, .f32⟩
  | .hbm, ⟨17, _⟩ => ⟨S8320x2048, .f32⟩
  | .hbm, ⟨18, _⟩ => ⟨S8320x2048, .f32⟩
  | .hbm, ⟨19, _⟩ => ⟨S8320x11264, .f32⟩
  | .hbm, ⟨20, _⟩ => ⟨S8320x5632, .f32⟩
  | .hbm, ⟨21, _⟩ => ⟨S8320x5632, .f32⟩
  | .hbm, ⟨22, _⟩ => ⟨S8320x5632, .f32⟩
  | .hbm, ⟨23, _⟩ => ⟨S8320x5632, .f32⟩
  | .hbm, ⟨24, _⟩ => ⟨S_, .f32⟩
  | .hbm, ⟨25, _⟩ => ⟨S8320x5632, .f32⟩
  | .hbm, ⟨26, _⟩ => ⟨S8320x5632, .f32⟩
  | .hbm, ⟨27, _⟩ => ⟨S_, .f32⟩
  | .hbm, ⟨28, _⟩ => ⟨S8320x5632, .f32⟩
  | .hbm, ⟨29, _⟩ => ⟨S8320x5632, .f32⟩
  | .hbm, ⟨30, _⟩ => ⟨S8320x5632, .f32⟩
  | .hbm, ⟨31, _⟩ => ⟨S8320x5632, .f32⟩
  | .hbm, ⟨32, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== FfnDown.lean ====
abbrev S8320x5632 : Shape := ⟨2, ![8320, 5632]⟩
abbrev S5632x2048 : Shape := ⟨2, ![5632, 2048]⟩
abbrev S8320x2048 : Shape := ⟨2, ![8320, 2048]⟩
abbrev S1040x5632 : Shape := ⟨2, ![1040, 5632]⟩
abbrev S5632x512 : Shape := ⟨2, ![5632, 512]⟩
abbrev S1040x512 : Shape := ⟨2, ![1040, 512]⟩

abbrev nBuf : Space → Nat
  | .hbm => 5
  | .vmem => 8
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .f32⟩
  | .hbm, ⟨2, _⟩ => ⟨S8320x2048, .f32⟩
  | .hbm, ⟨3, _⟩ => ⟨S5632x2048, .bf16⟩
  | .hbm, ⟨4, _⟩ => ⟨S8320x2048, .f32⟩
  | .local _ .vmem, ⟨0, _⟩ => ⟨S1040x5632, .bf16⟩
  | .local _ .vmem, ⟨1, _⟩ => ⟨S1040x5632, .bf16⟩
  | .local _ .vmem, ⟨2, _⟩ => ⟨S5632x512, .bf16⟩
  | .local _ .vmem, ⟨3, _⟩ => ⟨S5632x512, .bf16⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S8320x5632 : Shape := ⟨2, ![8320, 5632]⟩
abbrev S5632x2048 : Shape := ⟨2, ![5632, 2048]⟩
abbrev S8320x2048 : Shape := ⟨2, ![8320, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .f32⟩
  | .hbm, ⟨2, _⟩ => ⟨S8320x2048, .f32⟩
  | .hbm, ⟨3, _⟩ => ⟨S8320x5632, .f32⟩
  | .hbm, ⟨4, _⟩ => ⟨S8320x2048, .f32⟩
  | .hbm, ⟨5, _⟩ => ⟨S_, .f32⟩
  | .hbm, ⟨6, _⟩ => ⟨S8320x2048, .f32⟩
  | .hbm, ⟨7, _⟩ => ⟨S8320x2048, .f32⟩
  | .hbm, ⟨8, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProj.lean ====
abbrev S8320x2048 : Shape := ⟨2, ![8320, 2048]⟩
abbrev S2048 : Shape := ⟨1, ![2048]⟩
abbrev S2048x16384 : Shape := ⟨2, ![2048, 16384]⟩
abbrev S1x2048 : Shape := ⟨2, ![1, 2048]⟩
abbrev S8320x16384 : Shape := ⟨2, ![8320, 16384]⟩
abbrev S1040x2048 : Shape := ⟨2, ![1040, 2048]⟩
abbrev S2048x1024 : Shape := ⟨2, ![2048, 1024]⟩
abbrev S1040x1024 : Shape := ⟨2, ![1040, 1024]⟩
abbrev S1040 : Shape := ⟨1, ![1040]⟩
abbrev S1040x1 : Shape := ⟨2, ![1040, 1]⟩

abbrev nBuf : Space → Nat
  | .hbm => 6
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x16384, .f32⟩
  | .hbm, ⟨3, _⟩ => ⟨S2048x16384, .bf16⟩
  | .hbm, ⟨4, _⟩ => ⟨S1x2048, .f32⟩
  | .hbm, ⟨5, _⟩ => ⟨S8320x16384, .f32⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1040x1024, .f32⟩
  | .local _ .vmem, ⟨6, _⟩ => ⟨S1040x1024, .f32⟩
  | .local _ .vmem, ⟨7, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8320x2048 : Shape := ⟨2, ![8320, 2048]⟩
abbrev S2048 : Shape := ⟨1, ![2048]⟩
abbrev S2048x16384 : Shape := ⟨2, ![2048, 16384]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x16384 : Shape := ⟨2, ![8320, 16384]⟩

abbrev nBuf : Space → Nat
  | .hbm => 20
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x16384, .f32⟩
  | .hbm, ⟨3, _⟩ => ⟨S8320x2048, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x2048, .f32⟩
  | .hbm, ⟨15, _⟩ => ⟨S8320x2048, .f32⟩
  | .hbm, ⟨16, _⟩ => ⟨S1x2048, .f32⟩
  | .hbm, ⟨17, _⟩ => ⟨S8320x2048, .f32⟩
  | .hbm, ⟨18, _⟩ => ⟨S8320x2048, .f32⟩
  | .hbm, ⟨19, _⟩ => ⟨S8320x16384, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S8320x1024 : Shape := ⟨2, ![8320, 1024]⟩
abbrev S1024x2048 : Shape := ⟨2, ![1024, 2048]⟩
abbrev S8320x16384 : Shape := ⟨2, ![8320, 16384]⟩
abbrev S8320x2048 : Shape := ⟨2, ![8320, 2048]⟩
abbrev S1040x1024 : Shape := ⟨2, ![1040, 1024]⟩
abbrev S1024x512 : Shape := ⟨2, ![1024, 512]⟩
abbrev S1040x512 : Shape := ⟨2, ![1040, 512]⟩

abbrev nBuf : Space → Nat
  | .hbm => 11
  | .vmem => 20
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S8320x16384, .f32⟩
  | .hbm, ⟨7, _⟩ => ⟨S1024x2048, .bf16⟩
  | .hbm, ⟨8, _⟩ => ⟨S1024x2048, .bf16⟩
  | .hbm, ⟨9, _⟩ => ⟨S1024x2048, .bf16⟩
  | .hbm, ⟨10, _⟩ => ⟨S8320x2048, .bf16⟩
  | .local _ .vmem, ⟨0, _⟩ => ⟨S1040x1024, .bf16⟩
  | .local _ .vmem, ⟨1, _⟩ => ⟨S1040x1024, .bf16⟩
  | .local _ .vmem, ⟨2, _⟩ => ⟨S1040x1024, .bf16⟩
  | .local _ .vmem, ⟨3, _⟩ => ⟨S1040x1024, .bf16⟩
  | .local _ .vmem, ⟨4, _⟩ => ⟨S1040x1024, .bf16⟩
  | .local _ .vmem, ⟨5, _⟩ => ⟨S1040x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1040x512, .f32⟩
  | .local _ .vmem, ⟨13, _⟩ => ⟨S1040x512, .f32⟩
  | .local _ .vmem, ⟨14, _⟩ => ⟨S1040x512, .f32⟩
  | .local _ .vmem, ⟨15, _⟩ => ⟨S1040x512, .f32⟩
  | .local _ .vmem, ⟨16, _⟩ => ⟨S1040x512, .f32⟩
  | .local _ .vmem, ⟨17, _⟩ => ⟨S1040x512, .f32⟩
  | .local _ .vmem, ⟨18, _⟩ => ⟨S1040x512, .bf16⟩
  | .local _ .vmem, ⟨19, _⟩ => ⟨S1040x512, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c27_i32 : BitVec 32 := 27#32
  let v0 : BitVec 32 := Scalar.addi c27_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1040x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1040x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1040x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1040x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1040x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8320x1024 : Shape := ⟨2, ![8320, 1024]⟩
abbrev S1024x2048 : Shape := ⟨2, ![1024, 2048]⟩
abbrev S8320x16384 : Shape := ⟨2, ![8320, 16384]⟩
abbrev S8320x6144 : Shape := ⟨2, ![8320, 6144]⟩
abbrev S_ : Shape := ⟨0, ![]⟩
abbrev S8320x3x2048 : Shape := ⟨3, ![8320, 3, 2048]⟩
abbrev S8320x1x2048 : Shape := ⟨3, ![8320, 1, 2048]⟩
abbrev S8320x2048 : Shape := ⟨2, ![8320, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S8320x16384, .f32⟩
  | .hbm, ⟨7, _⟩ => ⟨S8320x6144, .f32⟩
  | .hbm, ⟨8, _⟩ => ⟨S8320x6144, .f32⟩
  | .hbm, ⟨9, _⟩ => ⟨S8320x6144, .f32⟩
  | .hbm, ⟨10, _⟩ => ⟨S_, .f32⟩
  | .hbm, ⟨11, _⟩ => ⟨S8320x6144, .f32⟩
  | .hbm, ⟨12, _⟩ => ⟨S8320x6144, .f32⟩
  | .hbm, ⟨13, _⟩ => ⟨S_, .f32⟩
  | .hbm, ⟨14, _⟩ => ⟨S8320x6144, .f32⟩
  | .hbm, ⟨15, _⟩ => ⟨S8320x6144, .f32⟩
  | .hbm, ⟨16, _⟩ => ⟨S8320x3x2048, .f32⟩
  | .hbm, ⟨17, _⟩ => ⟨S8320x1x2048, .f32⟩
  | .hbm, ⟨18, _⟩ => ⟨S8320x2048, .f32⟩
  | .hbm, ⟨19, _⟩ => ⟨S8320x1024, .f32⟩
  | .hbm, ⟨20, _⟩ => ⟨S8320x2048, .f32⟩
  | .hbm, ⟨21, _⟩ => ⟨S8320x2048, .f32⟩
  | .hbm, ⟨22, _⟩ => ⟨S8320x1x2048, .f32⟩
  | .hbm, ⟨23, _⟩ => ⟨S8320x2048, .f32⟩
  | .hbm, ⟨24, _⟩ => ⟨S8320x1024, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S8320x1x2048, .f32⟩
  | .hbm, ⟨29, _⟩ => ⟨S8320x2048, .f32⟩
  | .hbm, ⟨30, _⟩ => ⟨S8320x1024, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== OutProj.lean ====
abbrev S8320x2048 : Shape := ⟨2, ![8320, 2048]⟩
abbrev S2048x2048 : Shape := ⟨2, ![2048, 2048]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 5
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S2048x2048, .bf16⟩
  | .hbm, ⟨4, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .bf16⟩
  | .local _ .vmem, ⟨3, _⟩ => ⟨S2048x512, .bf16⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8320x2048 : Shape := ⟨2, ![8320, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S8320x2048, .f32⟩
  | .hbm, ⟨4, _⟩ => ⟨S8320x2048, .f32⟩
  | .hbm, ⟨5, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FinalPrompt.lean ====
abbrev S8320x2048 : Shape := ⟨2, ![8320, 2048]⟩
abbrev S2048 : Shape := ⟨1, ![2048]⟩
abbrev S1x2048 : Shape := ⟨2, ![1, 2048]⟩
abbrev S4x32x64x2048 : Shape := ⟨4, ![4, 32, 64, 2048]⟩
abbrev S64x2048 : Shape := ⟨2, ![64, 2048]⟩
abbrev S1x1x64x2048 : Shape := ⟨4, ![1, 1, 64, 2048]⟩
abbrev S64 : Shape := ⟨1, ![64]⟩
abbrev S64x1 : Shape := ⟨2, ![64, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S4x32x64x2048, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S1x1x64x2048, .f32⟩
  | .local _ .vmem, ⟨4, _⟩ => ⟨S1x1x64x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalPromptRefIdeal.lean ====
abbrev S8320x2048 : Shape := ⟨2, ![8320, 2048]⟩
abbrev S2048 : Shape := ⟨1, ![2048]⟩
abbrev S8192x2048 : Shape := ⟨2, ![8192, 2048]⟩
abbrev S32x4x64x2048 : Shape := ⟨4, ![32, 4, 64, 2048]⟩
abbrev S4x32x64x2048 : Shape := ⟨4, ![4, 32, 64, 2048]⟩
abbrev S_ : Shape := ⟨0, ![]⟩
abbrev S4x32x64 : Shape := ⟨3, ![4, 32, 64]⟩
abbrev S4x32x64x1 : Shape := ⟨4, ![4, 32, 64, 1]⟩
abbrev S1x1x1x2048 : Shape := ⟨4, ![1, 1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8192x2048, .f32⟩
  | .hbm, ⟨3, _⟩ => ⟨S32x4x64x2048, .f32⟩
  | .hbm, ⟨4, _⟩ => ⟨S4x32x64x2048, .f32⟩
  | .hbm, ⟨5, _⟩ => ⟨S4x32x64x2048, .f32⟩
  | .hbm, ⟨6, _⟩ => ⟨S_, .f32⟩
  | .hbm, ⟨7, _⟩ => ⟨S4x32x64, .f32⟩
  | .hbm, ⟨8, _⟩ => ⟨S4x32x64x1, .f32⟩
  | .hbm, ⟨9, _⟩ => ⟨S_, .f32⟩
  | .hbm, ⟨10, _⟩ => ⟨S4x32x64x1, .f32⟩
  | .hbm, ⟨11, _⟩ => ⟨S4x32x64x1, .f32⟩
  | .hbm, ⟨12, _⟩ => ⟨S_, .f32⟩
  | .hbm, ⟨13, _⟩ => ⟨S4x32x64x1, .f32⟩
  | .hbm, ⟨14, _⟩ => ⟨S4x32x64x1, .f32⟩
  | .hbm, ⟨15, _⟩ => ⟨S4x32x64x1, .f32⟩
  | .hbm, ⟨16, _⟩ => ⟨S4x32x64x2048, .f32⟩
  | .hbm, ⟨17, _⟩ => ⟨S4x32x64x2048, .f32⟩
  | .hbm, ⟨18, _⟩ => ⟨S1x1x1x2048, .f32⟩
  | .hbm, ⟨19, _⟩ => ⟨S4x32x64x2048, .f32⟩
  | .hbm, ⟨20, _⟩ => ⟨S4x32x64x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== FinalSample.lean ====
abbrev S8320x2048 : Shape := ⟨2, ![8320, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S128x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FinalSampleRefIdeal.lean ====
abbrev S8320x2048 : Shape := ⟨2, ![8320, 2048]⟩
abbrev S2048 : Shape := ⟨1, ![2048]⟩
abbrev S128x2048 : Shape := ⟨2, ![128, 2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S128x2048, .f32⟩
  | .hbm, ⟨3, _⟩ => ⟨S128x2048, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x2048, .f32⟩
  | .hbm, ⟨15, _⟩ => ⟨S128x2048, .f32⟩
  | .hbm, ⟨16, _⟩ => ⟨S1x2048, .f32⟩
  | .hbm, ⟨17, _⟩ => ⟨S128x2048, .f32⟩
  | .hbm, ⟨18, _⟩ => ⟨S128x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GlaStep.lean ====
abbrev S8320x16384 : Shape := ⟨2, ![8320, 16384]⟩
abbrev S128x4x128x256 : Shape := ⟨4, ![128, 4, 128, 256]⟩
abbrev S16x512 : Shape := ⟨2, ![16, 512]⟩
abbrev S512 : Shape := ⟨1, ![512]⟩
abbrev S256 : Shape := ⟨1, ![256]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S128x1024 : Shape := ⟨2, ![128, 1024]⟩
abbrev S16x128 : Shape := ⟨2, ![16, 128]⟩
abbrev S16x256 : Shape := ⟨2, ![16, 256]⟩
abbrev S128x128 : Shape := ⟨2, ![128, 128]⟩
abbrev S1x128 : Shape := ⟨2, ![1, 128]⟩
abbrev S16x1x128x256 : Shape := ⟨4, ![16, 1, 128, 256]⟩
abbrev S112x128 : Shape := ⟨2, ![112, 128]⟩
abbrev S128x1 : Shape := ⟨2, ![128, 1]⟩
abbrev S1x1x128x256 : Shape := ⟨4, ![1, 1, 128, 256]⟩
abbrev S128x256 : Shape := ⟨2, ![128, 256]⟩
abbrev S16 : Shape := ⟨1, ![16]⟩
abbrev S16x1 : Shape := ⟨2, ![16, 1]⟩

abbrev nBuf : Space → Nat
  | .hbm => 11
  | .vmem => 21
  | .smem => 0
  | _ => 0

abbrev bufTy : (tb : Table) → Fin (tcTables nBuf tb) → BufTy
  | .hbm, ⟨0, _⟩ => ⟨S8320x16384, .f32⟩
  | .hbm, ⟨1, _⟩ => ⟨S128x4x128x256, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S_, .f32⟩
  | .hbm, ⟨6, _⟩ => ⟨S128x512, .f32⟩
  | .hbm, ⟨7, _⟩ => ⟨S1x512, .f32⟩
  | .hbm, ⟨8, _⟩ => ⟨S1x256, .f32⟩
  | .hbm, ⟨9, _⟩ => ⟨S128x1024, .bf16⟩
  | .hbm, ⟨10, _⟩ => ⟨S128x4x128x256, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x256, .f32⟩
  | .local _ .vmem, ⟨5, _⟩ => ⟨S16x256, .f32⟩
  | .local _ .vmem, ⟨6, _⟩ => ⟨S16x128, .f32⟩
  | .local _ .vmem, ⟨7, _⟩ => ⟨S16x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S16x256, .f32⟩
  | .local _ .vmem, ⟨13, _⟩ => ⟨S16x256, .f32⟩
  | .local _ .vmem, ⟨14, _⟩ => ⟨S1x256, .f32⟩
  | .local _ .vmem, ⟨15, _⟩ => ⟨S16x1x128x256, .f32⟩
  | .local _ .vmem, ⟨16, _⟩ => ⟨S16x1x128x256, .f32⟩
  | .local _ .vmem, ⟨17, _⟩ => ⟨S16x256, .bf16⟩
  | .local _ .vmem, ⟨18, _⟩ => ⟨S16x256, .bf16⟩
  | .local _ .vmem, ⟨19, _⟩ => ⟨S16x1x128x256, .f32⟩
  | .local _ .vmem, ⟨20, _⟩ => ⟨S16x1x128x256, .f32⟩
  | _, _ => ⟨S8320x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c52_i32 : BitVec 32 := 52#32
  let v1 : BitVec 32 := Scalar.addi c52_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c56_i32 : BitVec 32 := 56#32
  let v1 : BitVec 32 := Scalar.addi c56_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c30_i32 : BitVec 32 := 30#32
  let v1 : BitVec 32 := Scalar.addi c30_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c124_i32 : BitVec 32 := 124#32
  let c0_i32 : BitVec 32 := 0#32
  ![v0.toNat, c124_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg1
  let c34_i32 : BitVec 32 := 34#32
  let v1 : BitVec 32 := Scalar.addi c34_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GlaStepRefIdeal.lean ====
abbrev S8320x16384 : Shape := ⟨2, ![8320, 16384]⟩
abbrev S128x4x128x256 : Shape := ⟨4, ![128, 4, 128, 256]⟩
abbrev S16x512 : Shape := ⟨2, ![16, 512]⟩
abbrev S512 : Shape := ⟨1, ![512]⟩
abbrev S256 : Shape := ⟨1, ![256]⟩
abbrev S128x16384 : Shape := ⟨2, ![128, 16384]⟩
abbrev S128x512 : Shape := ⟨2, ![128, 512]⟩
abbrev S128x1024 : Shape := ⟨2, ![128, 1024]⟩
abbrev S128x16 : Shape := ⟨2, ![128, 16]⟩
abbrev S128x4x128 : Shape := ⟨3, ![128, 4, 128]⟩
abbrev S_ : Shape := ⟨0, ![]⟩
abbrev S1x512 : Shape := ⟨2, ![1, 512]⟩
abbrev S128x4x256 : Shape := ⟨3, ![128, 4, 256]⟩
abbrev S128x4 : Shape := ⟨2, ![128, 4]⟩
abbrev S128x4x1 : Shape := ⟨3, ![128, 4, 1]⟩
abbrev S128x4x128x1 : Shape := ⟨4, ![128, 4, 128, 1]⟩
abbrev S128x4x1x256 : Shape := ⟨4, ![128, 4, 1, 256]⟩
abbrev S1x1x256 : Shape := ⟨3, ![1, 1, 256]⟩

abbrev nBuf : Space → Nat
  | .hbm => 96
  | .vmem => 0
  | .smem => 0
  | _ => 0

abbrev bufTy : (tb : Table) → Fin (tcTables nBuf tb) → BufTy
  | .hbm, ⟨0, _⟩ => ⟨S8320x16384, .f32⟩
  | .hbm, ⟨1, _⟩ => ⟨S128x4x128x256, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S128x16384, .f32⟩
  | .hbm, ⟨6, _⟩ => ⟨S128x512, .f32⟩
  | .hbm, ⟨7, _⟩ => ⟨S128x512, .f32⟩
  | .hbm, ⟨8, _⟩ => ⟨S128x1024, .f32⟩
  | .hbm, ⟨9, _⟩ => ⟨S128x1024, .f32⟩
  | .hbm, ⟨10, _⟩ => ⟨S128x16, .f32⟩
  | .hbm, ⟨11, _⟩ => ⟨S128x4x128, .f32⟩
  | .hbm, ⟨12, _⟩ => ⟨S_, .f32⟩
  | .hbm, ⟨13, _⟩ => ⟨S128x4x128, .f32⟩
  | .hbm, ⟨14, _⟩ => ⟨S128x4x128, .f32⟩
  | .hbm, ⟨15, _⟩ => ⟨S128x512, .f32⟩
  | .hbm, ⟨16, _⟩ => ⟨S1x512, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S_, .f32⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x512, .i1⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S_, .f32⟩
  | .hbm, ⟨36, _⟩ => ⟨S128x512, .f32⟩
  | .hbm, ⟨37, _⟩ => ⟨S128x512, .f32⟩
  | .hbm, ⟨38, _⟩ => ⟨S128x4x128, .f32⟩
  | .hbm, ⟨39, _⟩ => ⟨S128x4x256, .f32⟩
  | .hbm, ⟨40, _⟩ => ⟨S128x4x128, .f32⟩
  | .hbm, ⟨41, _⟩ => ⟨S128x4x128, .f32⟩
  | .hbm, ⟨42, _⟩ => ⟨S128x4x128, .f32⟩
  | .hbm, ⟨43, _⟩ => ⟨S128x4x128, .f32⟩
  | .hbm, ⟨44, _⟩ => ⟨S128x4x128, .f32⟩
  | .hbm, ⟨45, _⟩ => ⟨S_, .f32⟩
  | .hbm, ⟨46, _⟩ => ⟨S128x4, .f32⟩
  | .hbm, ⟨47, _⟩ => ⟨S128x4x1, .f32⟩
  | .hbm, ⟨48, _⟩ => ⟨S128x4x256, .f32⟩
  | .hbm, ⟨49, _⟩ => ⟨S128x4x256, .f32⟩
  | .hbm, ⟨50, _⟩ => ⟨S128x4x128, .f32⟩
  | .hbm, ⟨51, _⟩ => ⟨S128x4x128, .f32⟩
  | .hbm, ⟨52, _⟩ => ⟨S128x4x256, .f32⟩
  | .hbm, ⟨53, _⟩ => ⟨S128x4x256, .f32⟩
  | .hbm, ⟨54, _⟩ => ⟨S128x4x128, .f32⟩
  | .hbm, ⟨55, _⟩ => ⟨S128x4x128x1, .f32⟩
  | .hbm, ⟨56, _⟩ => ⟨S128x4x128x256, .f32⟩
  | .hbm, ⟨57, _⟩ => ⟨S128x4x128x256, .f32⟩
  | .hbm, ⟨58, _⟩ => ⟨S128x4x128, .f32⟩
  | .hbm, ⟨59, _⟩ => ⟨S128x4x128, .f32⟩
  | .hbm, ⟨60, _⟩ => ⟨S128x4x128, .f32⟩
  | .hbm, ⟨61, _⟩ => ⟨S128x4x128x1, .f32⟩
  | .hbm, ⟨62, _⟩ => ⟨S128x4x1x256, .f32⟩
  | .hbm, ⟨63, _⟩ => ⟨S128x4x128x256, .f32⟩
  | .hbm, ⟨64, _⟩ => ⟨S128x4x128x256, .f32⟩
  | .hbm, ⟨65, _⟩ => ⟨S128x4x128x256, .f32⟩
  | .hbm, ⟨66, _⟩ => ⟨S128x4x128x256, .f32⟩
  | .hbm, ⟨67, _⟩ => ⟨S128x4x256, .f32⟩
  | .hbm, ⟨68, _⟩ => ⟨S_, .f32⟩
  | .hbm, ⟨69, _⟩ => ⟨S128x4, .f32⟩
  | .hbm, ⟨70, _⟩ => ⟨S128x4x1, .f32⟩
  | .hbm, ⟨71, _⟩ => ⟨S_, .f32⟩
  | .hbm, ⟨72, _⟩ => ⟨S128x4x1, .f32⟩
  | .hbm, ⟨73, _⟩ => ⟨S128x4x1, .f32⟩
  | .hbm, ⟨74, _⟩ => ⟨S_, .f32⟩
  | .hbm, ⟨75, _⟩ => ⟨S128x4x1, .f32⟩
  | .hbm, ⟨76, _⟩ => ⟨S128x4x1, .f32⟩
  | .hbm, ⟨77, _⟩ => ⟨S128x4x1, .f32⟩
  | .hbm, ⟨78, _⟩ => ⟨S128x4x256, .f32⟩
  | .hbm, ⟨79, _⟩ => ⟨S128x4x256, .f32⟩
  | .hbm, ⟨80, _⟩ => ⟨S1x1x256, .f32⟩
  | .hbm, ⟨81, _⟩ => ⟨S128x4x256, .f32⟩
  | .hbm, ⟨82, _⟩ => ⟨S128x4x256, .f32⟩
  | .hbm, ⟨83, _⟩ => ⟨S128x1024, .f32⟩
  | .hbm, ⟨84, _⟩ => ⟨S128x1024, .f32⟩
  | .hbm, ⟨85, _⟩ => ⟨S_, .f32⟩
  | .hbm, ⟨86, _⟩ => ⟨S128x1024, .f32⟩
  | .hbm, ⟨87, _⟩ => ⟨S128x1024, .f32⟩
  | .hbm, ⟨88, _⟩ => ⟨S_, .f32⟩
  | .hbm, ⟨89, _⟩ => ⟨S128x1024, .f32⟩
  | .hbm, ⟨90, _⟩ => ⟨S128x1024, .f32⟩
  | .hbm, ⟨91, _⟩ => ⟨S128x1024, .f32⟩
  | .hbm, ⟨92, _⟩ => ⟨S128x4x256, .f32⟩
  | .hbm, ⟨93, _⟩ => ⟨S128x4x256, .f32⟩
  | .hbm, ⟨94, _⟩ => ⟨S128x1024, .f32⟩
  | .hbm, ⟨95, _⟩ => ⟨S128x1024, .bf16⟩
  | _, _ => ⟨S8320x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]
-- ==== Proof.Reals.lean ====
/- Real numbers among the extended reals: what the extended operations do on them, and the gates of the mixers as functions of real numbers. -/
module

public import Idealize.ShloMosaic.Lib.Pipeline.ValueKit
public import Idealize.ShloMosaic.Lib.Claim

@[expose] public section

noncomputable section

open Idealize.ShloMosaic

namespace Cert.Reals

/-- A quotient of real numbers is the real quotient when the divisor isn't zero. -/
theorem div_real {x y : ℝ} (h : y ≠ 0) : Ideal.div (x : EReal) (y : EReal) = ((x / y : ℝ) : EReal) := by
  rw [Ideal.div_coe h, ← EReal.coe_mul, mul_one_div]

/-- The logarithm of a positive real number. -/
theorem log_real {x : ℝ} (h : 0 < x) : Ideal.log (x : EReal) = ((Real.log x : ℝ) : EReal) := by
  rw [Ideal.log_coe, if_neg (not_le.mpr h)]

/-- A sum of real numbers. -/
theorem sum_real {ι : Type} (s : Finset ι) (f : ι → ℝ) : ∑ i ∈ s, ((f i : ℝ) : EReal) = ((∑ i ∈ s, f i : ℝ) : EReal) :=
  (map_sum (⟨⟨fun r : ℝ => (r : EReal), EReal.coe_zero⟩, EReal.coe_add⟩ : ℝ →+ EReal) f s).symm

/-- The larger of two real numbers. -/
theorem max_real (x y : ℝ) : max (x : EReal) (y : EReal) = ((max x y : ℝ) : EReal) :=
  (EReal.coe_strictMono.monotone.map_max).symm

/-- The logistic function. -/
def sgm (x : ℝ) : ℝ := (1 + Real.exp (-x))⁻¹

theorem sgm_pos (x : ℝ) : 0 < sgm x := inv_pos.mpr (by positivity)

/-- The second weight of a softmax of two numbers. -/
def soft1 (a b : ℝ) : ℝ := Real.exp (b - max a b) / (Real.exp (a - max a b) + Real.exp (b - max a b))

/-- The first weight of a softmax of two numbers. -/
def soft0 (a b : ℝ) : ℝ := Real.exp (a - max a b) / (Real.exp (a - max a b) + Real.exp (b - max a b))

/-- The least positive normal number of the 32-bit format. -/
def tiny : ℝ := 2 ^ (-126 : ℤ)

theorem tiny_pos : 0 < tiny := by unfold tiny; positivity

theorem tiny_bits : Ideal.ofBits .f32 0x00800000#32 = (tiny : EReal) := by
  simp [Ideal.ofBits, Ideal.ieee, tiny, -EReal.coe_mul]
  norm_num

/-- The query scale `128 ^ (-1/2)` as the 32-bit format has it. -/
def qscale : ℝ := (Ideal.ofBits .f32 0x3DB504F3#32 : EReal).toReal

theorem qscale_bits : Ideal.ofBits .f32 0x3DB504F3#32 = (qscale : EReal) := by
  unfold qscale
  simp [Ideal.ofBits, Ideal.ieee, -EReal.coe_mul]

/-- The logistic function of a real number. -/
theorem logistic_real (x : ℝ) : Ideal.logistic (x : EReal) = (sgm x : EReal) := by
  rw [Ideal.logistic_coe]; rfl

/-- The logistic function written as a quotient. -/
theorem div_logistic (x : ℝ) : Ideal.div 1 (1 + Ideal.exp (-(x : EReal))) = (sgm x : EReal) := logistic_real x

/-- A softmax of two numbers as the extended reals have it, with the larger number taken off first. -/
theorem softmax_two (f : Fin 2 → ℝ) (i : Fin 2) (b : EReal) (hb : b = ⊥) :
    Ideal.div (Ideal.exp ((f i : EReal) - Finset.fold max b (fun x => (f x : EReal)) Finset.univ))
        (∑ x, Ideal.exp ((f x : EReal) - Finset.fold max b (fun x => (f x : EReal)) Finset.univ))
      = ((Real.exp (f i - max (f 0) (f 1)) / (Real.exp (f 0 - max (f 0) (f 1)) + Real.exp (f 1 - max (f 0) (f 1))) : ℝ) : EReal) := by
  have hm : Finset.fold max b (fun x => (f x : EReal)) Finset.univ = ((max (f 0) (f 1) : ℝ) : EReal) := by
    subst hb
    rw [show (Finset.univ : Finset (Fin 2)) = {0, 1} from rfl, Finset.fold_insert (by decide), Finset.fold_singleton,
      max_bot_right, max_real]
  rw [hm]
  simp only [Fin.sum_univ_two, ← EReal.coe_sub, Ideal.exp_coe, ← EReal.coe_add]
  rw [div_real]
  positivity

theorem neg_inf_bits : Ideal.ofBits .f32 0xFF800000#32 = ⊥ := by
  simp [Ideal.ofBits, Ideal.ieee]

/-- The logarithm of a forget gate with lower bound `l`. -/
def logf (l z : ℝ) : ℝ := Real.log (max (l + (1 - l) * sgm z) tiny)

theorem log_gate (l z : ℝ) : Ideal.log (max ((l : EReal) + (1 - (l : EReal)) * (sgm z : EReal)) (Ideal.ofBits .f32 0x00800000#32)) = (logf l z : EReal) := by
  rw [tiny_bits, ← EReal.coe_one, ← EReal.coe_sub, ← EReal.coe_mul, ← EReal.coe_add, max_real, log_real (lt_max_of_lt_right tiny_pos)]
  rfl

/-- A head's output channel: the root-mean-square norm over the head's 128 channels with its weight, times the gated unit. -/
def normGate (o : Fin 128 → ℝ) (w g : EReal) (d : Fin 128) : EReal :=
  (o d : EReal) * Ideal.rsqrt (Ideal.div (∑ x, (o x : EReal) * (o x : EReal)) (Ideal.ofBits .f32 0x43000000#32) + Ideal.ofBits .f32 0x358637BD#32)
    * w * (g * Ideal.logistic g)

end Cert.Reals

end
-- ==== Proof.HgrnStepRefParts.lean ====
/- The reference of the HGRN2 step, part by part, as functions of real numbers. -/
module

public import proofs.«01_k».proof.Defs
public import proofs.«01_k».proof.Proof.Gen.HgrnStepRefIdeal.Run
public import proofs.«01_k».proof.Proof.Reals

@[expose] public section

set_option maxRecDepth 16384

noncomputable section

open Idealize.ShloMosaic Idealize.ShloMosaic.TcCoe Idealize.SL.Sem

namespace Cert.HgrnStepRefIdeal.Parts

open Cert.HgrnStepRefIdeal Cert.HgrnStepRefIdeal.Gen Cert.Reals

/-- The exponentials of the lower-bound logits, the largest of each column taken off. -/
def expL (x2 : FVec Ideal S2x1024 .f32) : FVec Ideal S2x1024 .f32 :=
  Host.exp (subf x2 (broadcastInDim S2x1024 ![0, 1] bcast_S1x1024_S2x1024_0_1 (broadcastInDim S1x1024 ![1] bcast_S1024_S1x1024_1 (maximumf
    (broadcastInDim S1024 ![] bcast_S_S1024 (constant S_ .f32 0xFF800000#32)) (Host.reduce FloatOps.maximumf x2 (constant S_ .f32
    0xFF800000#32) reducesTo_S2x1024_S1024_d0 h_S_)))))

/-- The softmax of the logits over the layers. -/
def soft (x2 : FVec Ideal S2x1024 .f32) : FVec Ideal S2x1024 .f32 :=
  Host.divf (expL x2) (broadcastInDim S2x1024 ![0, 1] bcast_S1x1024_S2x1024_0_1 (broadcastInDim S1x1024 ![1] bcast_S1024_S1x1024_1
    (Host.reduceAdd (expL x2) (constant S_ .f32 0x00000000#32) reducesTo_S2x1024_S1024_d0 h_S_)))

/-- The softmax of the first layer. -/
def soft0 (x2 : FVec Ideal S2x1024 .f32) : FVec Ideal S1024 .f32 :=
  shapeCast _ (extractStridedSlice S1x1024 ![0, 0] (soft x2) slices_S2x1024_S1x1024_0_0) shapeCasts_S1x1024_S1024

/-- The lower bound of the second layer: the running sum without the first. -/
def lower (x2 : FVec Ideal S2x1024 .f32) : FVec Ideal S1024 .f32 :=
  subf (addf (soft0 x2) (shapeCast _ (extractStridedSlice S1x1024 ![1, 0] (soft x2) slices_S2x1024_S1x1024_1_0) shapeCasts_S1x1024_S1024))
    (soft0 x2)

/-- One minus the lower bound, for every row. -/
def rest (x2 : FVec Ideal S2x1024 .f32) : FVec Ideal S128x1024 .f32 :=
  broadcastInDim S128x1024 ![0, 1] bcast_S1x1024_S128x1024_0_1 (broadcastInDim S1x1024 ![1] bcast_S1024_S1x1024_1 (subf (broadcastInDim
    S1024 ![] bcast_S_S1024 (constant S_ .f32 0x3F800000#32)) (lower x2)))

/-- The logarithm of the forget gate. -/
def logF (x0 : FVec Ideal S8320x16384 .f32) (x2 : FVec Ideal S2x1024 .f32) : FVec Ideal S128x8x128 .f32 :=
  shapeCast _ (Host.log (maximumf (addf (broadcastInDim S128x1024 ![0, 1] bcast_S1x1024_S128x1024_0_1 (broadcastInDim S1x1024 ![1]
    bcast_S1024_S1x1024_1 (lower x2))) (mulf (rest x2) (Host.divf (broadcastInDim S128x1024 ![] bcast_S_S128x1024 (constant S_ .f32
    0x3F800000#32)) (addf (broadcastInDim S128x1024 ![] bcast_S_S128x1024 (constant S_ .f32 0x3F800000#32)) (Host.exp (Host.negf
    (extractStridedSlice S128x1024 ![0, 3584] (extractStridedSlice S128x16384 ![8192, 0] x0 slices_S8320x16384_S128x16384_8192_0)
    slices_S128x16384_S128x1024_0_3584))))))) (broadcastInDim S128x1024 ![] bcast_S_S128x1024 (constant S_ .f32 0x00800000#32))))
    shapeCasts_S128x1024_S128x8x128

/-- The forget gate. -/
def decay (x0 : FVec Ideal S8320x16384 .f32) (x2 : FVec Ideal S2x1024 .f32) : FVec Ideal S128x8x128 .f32 :=
  Host.exp (logF x0 x2)

/-- The key. -/
def key (x0 : FVec Ideal S8320x16384 .f32) (x2 : FVec Ideal S2x1024 .f32) : FVec Ideal S128x8x128 .f32 :=
  shapeCast _ (mulf (rest x2) (Host.divf (broadcastInDim S128x1024 ![] bcast_S_S128x1024 (constant S_ .f32 0x3F800000#32)) (addf
    (broadcastInDim S128x1024 ![] bcast_S_S128x1024 (constant S_ .f32 0x3F800000#32)) (Host.exp (Host.negf (Host.negf (extractStridedSlice
    S128x1024 ![0, 3584] (extractStridedSlice S128x16384 ![8192, 0] x0 slices_S8320x16384_S128x16384_8192_0)
    slices_S128x16384_S128x1024_0_3584))))))) shapeCasts_S128x1024_S128x8x128

/-- The decay of a row from itself. -/
def own (x0 : FVec Ideal S8320x16384 .f32) (x2 : FVec Ideal S2x1024 .f32) : FVec Ideal S128x8x128 .f32 :=
  Host.exp (subf (logF x0 x2) (logF x0 x2))

/-- The value. -/
def value (x0 : FVec Ideal S8320x16384 .f32) : FVec Ideal S128x8x128 .f32 :=
  shapeCast _ (extractStridedSlice S128x1024 ![0, 4608] (extractStridedSlice S128x16384 ![8192, 0] x0 slices_S8320x16384_S128x16384_8192_0)
    slices_S128x16384_S128x1024_0_4608) shapeCasts_S128x1024_S128x8x128

/-- The query. -/
def query (x0 : FVec Ideal S8320x16384 .f32) : FVec Ideal S128x8x128 .f32 :=
  mulf (shapeCast _ (mulf (extractStridedSlice S128x1024 ![0, 2560] (extractStridedSlice S128x16384 ![8192, 0] x0
    slices_S8320x16384_S128x16384_8192_0) slices_S128x16384_S128x1024_0_2560) (Host.divf (broadcastInDim S128x1024 ![] bcast_S_S128x1024
    (constant S_ .f32 0x3F800000#32)) (addf (broadcastInDim S128x1024 ![] bcast_S_S128x1024 (constant S_ .f32 0x3F800000#32)) (Host.exp
    (Host.negf (extractStridedSlice S128x1024 ![0, 2560] (extractStridedSlice S128x16384 ![8192, 0] x0 slices_S8320x16384_S128x16384_8192_0)
    slices_S128x16384_S128x1024_0_2560)))))) shapeCasts_S128x1024_S128x8x128) (broadcastInDim S128x8x128 ![] bcast_S_S128x8x128 (constant S_
    .f32 0x3DB504F3#32))

/-- The output of the recurrence, before its norm. -/
def mixed (x0 : FVec Ideal S8320x16384 .f32) (x1 : FVec Ideal S128x8x128x128 .f32) (x2 : FVec Ideal S2x1024 .f32) : FVec Ideal S128x8x128 .f32 :=
  addf (mulf (broadcastInDim S128x8x128 ![0, 1, 2] bcast_S128x8x1_S128x8x128_0_1_2 (broadcastInDim S128x8x1 ![0, 1]
    bcast_S128x8_S128x8x1_0_1 (Host.reduceAdd (mulf (mulf (query x0) (own x0 x2)) (key x0 x2)) (constant S_ .f32 0x00000000#32)
    reducesTo_S128x8x128_S128x8_d2 h_S_))) (value x0)) (Host.dotGeneral dot_S128x8x128_S128x8x128x128_S128x8x128_2_2_n_3_01_01 none (mulf
    (query x0) (decay x0 x2)) x1)

/-- The reference's new state. -/
def STATE (x0 : FVec Ideal S8320x16384 .f32) (x1 : FVec Ideal S128x8x128x128 .f32) (x2 : FVec Ideal S2x1024 .f32) : FVec Ideal S128x8x128x128 .f32 :=
  addf (mulf (broadcastInDim S128x8x128x128 ![0, 1, 2, 3] bcast_S128x8x128x1_S128x8x128x128_0_1_2_3 (broadcastInDim S128x8x128x1 ![0, 1, 2]
    bcast_S128x8x128_S128x8x128x1_0_1_2 (decay x0 x2))) x1) (mulf (broadcastInDim S128x8x128x128 ![0, 1, 2, 3]
    bcast_S128x8x128x1_S128x8x128x128_0_1_2_3 (broadcastInDim S128x8x128x1 ![0, 1, 2] bcast_S128x8x128_S128x8x128x1_0_1_2 (mulf (key x0 x2)
    (own x0 x2)))) (broadcastInDim S128x8x128x128 ![0, 1, 2, 3] bcast_S128x8x1x128_S128x8x128x128_0_1_2_3 (broadcastInDim S128x8x1x128 ![0,
    1, 3] bcast_S128x8x128_S128x8x1x128_0_1_3 (value x0))))

/-- The reference's output rows. -/
def OUT (x0 : FVec Ideal S8320x16384 .f32) (x1 : FVec Ideal S128x8x128x128 .f32) (x2 : FVec Ideal S2x1024 .f32) (x3 : FVec Ideal S128 .f32) : FVec Ideal S128x1024 .bf16 :=
  truncf .bf16 (shapeCast _ (mulf (mulf (mulf (mixed x0 x1 x2) (broadcastInDim S128x8x128 ![0, 1, 2] bcast_S128x8x1_S128x8x128_0_1_2
    (Host.rsqrt (addf (Host.divf (broadcastInDim S128x8x1 ![0, 1] bcast_S128x8_S128x8x1_0_1 (Host.reduceAdd (mulf (mixed x0 x1 x2) (mixed x0
    x1 x2)) (constant S_ .f32 0x00000000#32) reducesTo_S128x8x128_S128x8_d2 h_S_)) (broadcastInDim S128x8x1 ![] bcast_S_S128x8x1 (constant
    S_ .f32 0x43000000#32))) (broadcastInDim S128x8x1 ![] bcast_S_S128x8x1 (constant S_ .f32 0x358637BD#32)))))) (broadcastInDim S128x8x128
    ![0, 1, 2] bcast_S1x1x128_S128x8x128_0_1_2 (broadcastInDim S1x1x128 ![2] bcast_S128_S1x1x128_2 x3))) (shapeCast _ (mulf
    (extractStridedSlice S128x1024 ![0, 5632] (extractStridedSlice S128x16384 ![8192, 0] x0 slices_S8320x16384_S128x16384_8192_0)
    slices_S128x16384_S128x1024_0_5632) (Host.divf (broadcastInDim S128x1024 ![] bcast_S_S128x1024 (constant S_ .f32 0x3F800000#32)) (addf
    (broadcastInDim S128x1024 ![] bcast_S_S128x1024 (constant S_ .f32 0x3F800000#32)) (Host.exp (Host.negf (extractStridedSlice S128x1024
    ![0, 5632] (extractStridedSlice S128x16384 ![8192, 0] x0 slices_S8320x16384_S128x16384_8192_0) slices_S128x16384_S128x1024_0_5632))))))
    shapeCasts_S128x1024_S128x8x128)) shapeCasts_S128x8x128_S128x1024) bitsLt_bf16_f32

/-- A column of the sample rows' key, query and value, in a head. -/
def zOf (P : Fin 8320 → Fin 16384 → ℝ) (i : Fin 128) (h : Fin 8) (d : Fin 128) : ℝ :=
  P ⟨8192 + i.val, by omega⟩ ⟨3584 + (h.val * 128 + d.val), by omega⟩
def qOf (P : Fin 8320 → Fin 16384 → ℝ) (i : Fin 128) (h : Fin 8) (d : Fin 128) : ℝ :=
  P ⟨8192 + i.val, by omega⟩ ⟨2560 + (h.val * 128 + d.val), by omega⟩
def vOf (P : Fin 8320 → Fin 16384 → ℝ) (i : Fin 128) (h : Fin 8) (d : Fin 128) : ℝ :=
  P ⟨8192 + i.val, by omega⟩ ⟨4608 + (h.val * 128 + d.val), by omega⟩

/-- The forget gate's lower bound in a head's channel. -/
def lbOf (L : Fin 2 → Fin 1024 → ℝ) (h : Fin 8) (d : Fin 128) : ℝ :=
  soft1 (L 0 ⟨h.val * 128 + d.val, by omega⟩) (L 1 ⟨h.val * 128 + d.val, by omega⟩)

/-- The state after the step. -/
def nextOf (P : Fin 8320 → Fin 16384 → ℝ) (S : Fin 128 → Fin 8 → Fin 128 → Fin 128 → ℝ) (L : Fin 2 → Fin 1024 → ℝ)
    (i : Fin 128) (h : Fin 8) (k d : Fin 128) : ℝ :=
  Real.exp (logf (lbOf L h k) (zOf P i h k)) * S i h k d + (1 - lbOf L h k) * sgm (-zOf P i h k) * vOf P i h d

/-- The query applied to the state after the step. -/
def mixedOf (P : Fin 8320 → Fin 16384 → ℝ) (S : Fin 128 → Fin 8 → Fin 128 → Fin 128 → ℝ) (L : Fin 2 → Fin 1024 → ℝ)
    (i : Fin 128) (h : Fin 8) (d : Fin 128) : ℝ :=
  ∑ k, qOf P i h k * sgm (qOf P i h k) * qscale * nextOf P S L i h k d

variable (x0 : FVec Ideal S8320x16384 .f32) (x1 : FVec Ideal S128x8x128x128 .f32) (x2 : FVec Ideal S2x1024 .f32) (x3 : FVec Ideal S128 .f32)
  (P : Fin 8320 → Fin 16384 → ℝ) (S : Fin 128 → Fin 8 → Fin 128 → Fin 128 → ℝ) (L : Fin 2 → Fin 1024 → ℝ)
  (b0 : ∀ r j, x0 (ix2 r j) = (P r j : EReal)) (b1 : ∀ i h k d, x1 (ix4 i h k d) = (S i h k d : EReal))
  (b2 : ∀ a j, x2 (ix2 a j) = (L a j : EReal))

include b2 in
theorem lower_real (j : Fin 1024) : lower x2 (ix1 j) = (soft1 (L 0 j) (L 1 j) : EReal) := by
  have e0 := softmax_two (fun a => L a j) 0 _ neg_inf_bits
  have e1 := softmax_two (fun a => L a j) 1 _ neg_inf_bits
  rw [neg_inf_bits] at e0 e1
  pointwise [lower, soft0, soft, expL]
  simp only [b2, neg_inf_bits, max_bot_left]
  rw [e0, e1, ← EReal.coe_add, ← EReal.coe_sub, add_sub_cancel_left]
  rfl

include b0 b2 in
theorem logF_real (i : Fin 128) (h : Fin 8) (d : Fin 128) : logF x0 x2 (ix3 i h d) = (logf (lbOf L h d) (zOf P i h d) : EReal) := by
  pointwise [logF, rest]
  simp only [b0, lower_real x2 L b2, div_logistic, log_gate]
  rfl

include b0 b2 in
theorem key_real (i : Fin 128) (h : Fin 8) (d : Fin 128) :
    key x0 x2 (ix3 i h d) = (((1 - lbOf L h d) * sgm (-zOf P i h d) : ℝ) : EReal) := by
  pointwise [key, rest]
  simp only [b0, lower_real x2 L b2]
  rw [← EReal.coe_neg, div_logistic]
  push_cast
  rfl

include b0 in
theorem query_real (i : Fin 128) (h : Fin 8) (d : Fin 128) :
    query x0 (ix3 i h d) = ((qOf P i h d * sgm (qOf P i h d) * qscale : ℝ) : EReal) := by
  pointwise [query]
  simp only [b0, div_logistic, qscale_bits]
  push_cast
  rfl

include b0 in
theorem value_real (i : Fin 128) (h : Fin 8) (d : Fin 128) : value x0 (ix3 i h d) = (vOf P i h d : EReal) := by
  pointwise [value]
  simp only [b0]
  rfl

include b0 b1 b2 in
/-- The reference's new state. -/
theorem state_real (i : Fin 128) (h : Fin 8) (k d : Fin 128) : STATE x0 x1 x2 (ix4 i h k d) = (nextOf P S L i h k d : EReal) := by
  pointwise [STATE, decay, own]
  simp only [logF_real x0 x2 P L b0 b2, key_real x0 x2 P L b0 b2, value_real x0 P b0, b1, Ideal.exp_coe, ← EReal.coe_sub, sub_self,
    Real.exp_zero, ← EReal.coe_mul, ← EReal.coe_add, mul_one]
  rfl

include b0 b1 b2 in
/-- The reference's output before the norm: the part from the row itself and the part from the old state make the query
    applied to the new state. -/
theorem mixed_real (i : Fin 128) (h : Fin 8) (d : Fin 128) : mixed x0 x1 x2 (ix3 i h d) = (mixedOf P S L i h d : EReal) := by
  pointwise [mixed, decay, own]
  simp only [logF_real x0 x2 P L b0 b2, key_real x0 x2 P L b0 b2, value_real x0 P b0, query_real x0 P b0, b1, Ideal.exp_coe,
    ← EReal.coe_sub, sub_self, Real.exp_zero, ← EReal.coe_mul, sum_real, ← EReal.coe_add, mul_one]
  congr 1
  unfold mixedOf nextOf
  rw [Finset.sum_mul, ← Finset.sum_add_distrib]
  refine Finset.sum_congr rfl fun k _ => ?_
  ring

include b0 b1 b2 in
/-- The reference's output rows. -/
theorem out_real (i : Fin 128) (j : Fin 1024) :
    OUT x0 x1 x2 x3 (ix2 i j)
      = normGate (fun d => mixedOf P S L i ⟨j.val / 128, by omega⟩ d) (x3 (ix1 ⟨j.val % 128, Nat.mod_lt _ (by decide)⟩))
          (x0 (ix2 ⟨8192 + i.val, by omega⟩ ⟨5632 + j.val, by omega⟩)) ⟨j.val % 128, Nat.mod_lt _ (by decide)⟩ := by
  pointwise [OUT]
  simp only [mixed_real x0 x1 x2 P S L b0 b1 b2]
  rfl

theorem out_eq (m : (ℓ : Loc nD τ sig) → Buf (Elt Ideal) ℓ) (c : Dev nD) :
    Value.res_main_v102 m c = OUT (m ((c : Thread nD τ).loc main_arg0)) (m ((c : Thread nD τ).loc main_arg1))
      (m ((c : Thread nD τ).loc main_arg2)) (m ((c : Thread nD τ).loc main_arg3)) := by
  unfold Value.res_main_v102 OUT mixed query value own key decay logF rest lower soft0 soft expL
  rfl

theorem state_eq (m : (ℓ : Loc nD τ sig) → Buf (Elt Ideal) ℓ) (c : Dev nD) :
    Value.res_main_v84 m c = STATE (m ((c : Thread nD τ).loc main_arg0)) (m ((c : Thread nD τ).loc main_arg1))
      (m ((c : Thread nD τ).loc main_arg2)) := by
  unfold Value.res_main_v84 STATE value own key decay logF rest lower soft0 soft expL
  rfl

end Cert.HgrnStepRefIdeal.Parts

end
-- ==== Proof.HgrnGates.lean ====
/- The gates of the HGRN2 mixer on one tile of sample rows, as functions of real numbers. -/
module

public import proofs.«01_k».proof.Defs
public import proofs.«01_k».proof.Proof.Gen.HgrnStepIdeal.Value
public import proofs.«01_k».proof.Proof.Reals

@[expose] public section

set_option maxRecDepth 16384

noncomputable section

open Idealize.ShloMosaic Idealize.ShloMosaic.TcCoe Idealize.SL.Sem

namespace Cert.HgrnStepIdeal.Gates

open Cert.HgrnStepIdeal Cert.HgrnStepIdeal.Gen Cert.Reals

theorem lb (v : FVec Ideal S2x128 .f32) (l : Fin 2 → Fin 128 → ℝ) (h : ∀ i d, v (ix2 i d) = (l i d : EReal)) (d : Fin 128) :
    k0_pay2 (F := Ideal) v (ix2 0 d) = (soft1 (l 0 d) (l 1 d) : EReal) := by
  pointwise [k0_pay2]
  simp only [h]
  exact softmax_two (fun x => l x d) 1 _ neg_inf_bits

theorem query (v : FVec Ideal S16x128 .f32) (z : Fin 16 → Fin 128 → ℝ) (h : ∀ i d, v (ix2 i d) = (z i d : EReal)) (i : Fin 16) (d : Fin 128) :
    k0_pay3 (F := Ideal) v (ix2 i d) = ((z i d * sgm (z i d) * qscale : ℝ) : EReal) := by
  pointwise [k0_pay3]
  simp only [h]
  rw [logistic_real, qscale_bits]
  push_cast
  rfl

theorem key (w : FVec Ideal S2x128 .f32) (l : Fin 2 → Fin 128 → ℝ) (hl : ∀ i d, w (ix2 i d) = (l i d : EReal))
    (v : FVec Ideal S16x128 .f32) (z : Fin 16 → Fin 128 → ℝ) (h : ∀ i d, v (ix2 i d) = (z i d : EReal)) (i : Fin 16) (d : Fin 128) :
    k0_pay4 (F := Ideal) w v (ix2 i d) = (((1 - soft1 (l 0 d) (l 1 d)) * sgm (- z i d) : ℝ) : EReal) := by
  pointwise [k0_pay4]
  simp only [h, lb w l hl]
  rw [zero_sub, ← EReal.coe_neg, logistic_real]
  push_cast
  rfl

theorem forget (w : FVec Ideal S2x128 .f32) (l : Fin 2 → Fin 128 → ℝ) (hl : ∀ i d, w (ix2 i d) = (l i d : EReal))
    (v : FVec Ideal S16x128 .f32) (z : Fin 16 → Fin 128 → ℝ) (h : ∀ i d, v (ix2 i d) = (z i d : EReal)) (d j : Fin 128) (i : Fin 16) (hj : j.val = i.val) :
    k0_pay5 (F := Ideal) w v (ix2 d j) = (Real.exp (logf (soft1 (l 0 d) (l 1 d)) (z i d)) : EReal) := by
  pointwise [k0_pay5]
  simp only [h, lb w l hl]
  have hji : (⟨j.val, hj ▸ i.isLt⟩ : Fin 16) = i := Fin.ext hj
  rw [dif_pos (hj ▸ i.isLt), logistic_real, hji, log_gate, Ideal.exp_coe]

/-- Reading a whole block gives the block. -/
theorem ld1 (v : Vec Ideal S16x128 .f32) : View.ld v r0_1 = v := by
  funext y
  pointwise [r0_1]

theorem ld0 (v : Vec Ideal S2x128 .f32) : View.ld v r0_0 = v := by
  funext y
  pointwise [r0_0]

/-- Sixteen selections by the row number pick the row's own value. -/
theorem pick (f : Fin 16 → EReal) (z : EReal) (i : Fin 16) :
    Scalar.select (IntOp.cmpi .eq (BitVec.ofNat 32 i.val) 15#32) (f 15) (Scalar.select (IntOp.cmpi .eq (BitVec.ofNat 32 i.val) 14#32)
    (f 14) (Scalar.select (IntOp.cmpi .eq (BitVec.ofNat 32 i.val) 13#32) (f 13) (Scalar.select (IntOp.cmpi .eq (BitVec.ofNat 32 i.val)
    12#32) (f 12) (Scalar.select (IntOp.cmpi .eq (BitVec.ofNat 32 i.val) 11#32) (f 11) (Scalar.select (IntOp.cmpi .eq (BitVec.ofNat 32
    i.val) 10#32) (f 10) (Scalar.select (IntOp.cmpi .eq (BitVec.ofNat 32 i.val) 9#32) (f 9) (Scalar.select (IntOp.cmpi .eq
    (BitVec.ofNat 32 i.val) 8#32) (f 8) (Scalar.select (IntOp.cmpi .eq (BitVec.ofNat 32 i.val) 7#32) (f 7) (Scalar.select (IntOp.cmpi
    .eq (BitVec.ofNat 32 i.val) 6#32) (f 6) (Scalar.select (IntOp.cmpi .eq (BitVec.ofNat 32 i.val) 5#32) (f 5) (Scalar.select
    (IntOp.cmpi .eq (BitVec.ofNat 32 i.val) 4#32) (f 4) (Scalar.select (IntOp.cmpi .eq (BitVec.ofNat 32 i.val) 3#32) (f 3)
    (Scalar.select (IntOp.cmpi .eq (BitVec.ofNat 32 i.val) 2#32) (f 2) (Scalar.select (IntOp.cmpi .eq (BitVec.ofNat 32 i.val) 1#32) (f
    1) (Scalar.select (IntOp.cmpi .eq (BitVec.ofNat 32 i.val) 0#32) (f 0) (z)))))))))))))))) = f i := by
  fin_cases i <;> rfl

section

variable (x0 x1 x2 : Vec Ideal S16x128 .f32) (x3 : Vec Ideal S2x128 .f32) (x4 : Vec Ideal S16x128 .f32) (x5 : Vec Ideal S1x128 .f32)
  (x6 : Vec Ideal S16x1x128x128 .f32) (Q Z V : Fin 16 → Fin 128 → ℝ) (L : Fin 2 → Fin 128 → ℝ) (S : Fin 16 → Fin 128 → Fin 128 → ℝ)
  (b0 : ∀ i d, x0 (ix2 i d) = (Q i d : EReal)) (b1 : ∀ i d, x1 (ix2 i d) = (Z i d : EReal)) (b2 : ∀ i d, x2 (ix2 i d) = (V i d : EReal))
  (b3 : ∀ i d, x3 (ix2 i d) = (L i d : EReal)) (b6 : ∀ i k d, x6 (ix4 i 0 k d) = (S i k d : EReal))

/-- The state after one step of the recurrence: the old state decayed by the forget gate, plus the outer product of key and value. -/
def next (i : Fin 16) (k d : Fin 128) : ℝ :=
  Real.exp (logf (soft1 (L 0 k) (L 1 k)) (Z i k)) * S i k d + (1 - soft1 (L 0 k) (L 1 k)) * sgm (-Z i k) * V i d

include b1 b2 b3 b6 in
set_option maxHeartbeats 1600000 in
/-- The state block a grid point stores. -/
theorem state (i : Fin 16) (k d : Fin 128) : out0_8 x0 x1 x2 x3 x4 x5 x6 (ix4 i 0 k d) = (next Z V L S i k d : EReal) := by
  have close : ∀ (n : Fin 16) (j a b : Fin 128), j.val = n.val → n = i → a = k → b = d →
      k0_pay5 (F := Ideal) x3 x1 (ix2 a j) * x6 (ix4 n 0 a b) + k0_pay4 (F := Ideal) x3 x1 (ix2 n a) * x2 (ix2 n b)
        = (next Z V L S i k d : EReal) := by
    rintro n j a b hj rfl rfl rfl
    rw [forget x3 L b3 x1 Z b1 a j n hj, key x3 L b3 x1 Z b1, b2, b6]
    unfold next
    push_cast
    rfl
  generalize hy : (ix4 i 0 k d : S16x1x128x128.Idx) = y
  canon_tiles x h
  all_goals
    pointwise [k0_pay1, k0_pay6, k0_pay7, k0_pay8, k0_pay9, k0_pay10, k0_pay11, k0_pay12, k0_pay13, k0_pay14, k0_pay15, k0_pay16, k0_pay17,
      k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53]
    simp only [ld1, ld0]
    subst hy
    refine close _ _ (x 2) (x 3) rfl (Fin.ext ?_) (Fin.ext h2.symm) (Fin.ext h3.symm)
    simpa using h0.symm

end

end Cert.HgrnStepIdeal.Gates

end
-- ==== Proof.HgrnOut.lean ====
/- The output block of the HGRN2 step kernel as a function of real numbers. -/
module

public import proofs.«01_k».proof.Proof.HgrnGates

@[expose] public section

set_option maxRecDepth 16384

noncomputable section

open Idealize.ShloMosaic Idealize.ShloMosaic.TcCoe Idealize.SL.Sem

namespace Cert.HgrnStepIdeal.Gates

open Cert.HgrnStepIdeal Cert.HgrnStepIdeal.Gen Cert.Reals

variable (x0 x1 x2 : Vec Ideal S16x128 .f32) (x3 : Vec Ideal S2x128 .f32) (x4 : Vec Ideal S16x128 .f32) (x5 : Vec Ideal S1x128 .f32)
  (x6 : Vec Ideal S16x1x128x128 .f32) (Q Z V : Fin 16 → Fin 128 → ℝ) (L : Fin 2 → Fin 128 → ℝ) (S : Fin 16 → Fin 128 → Fin 128 → ℝ)
  (b0 : ∀ i d, x0 (ix2 i d) = (Q i d : EReal)) (b1 : ∀ i d, x1 (ix2 i d) = (Z i d : EReal)) (b2 : ∀ i d, x2 (ix2 i d) = (V i d : EReal))
  (b3 : ∀ i d, x3 (ix2 i d) = (L i d : EReal)) (b6 : ∀ i k d, x6 (ix4 i 0 k d) = (S i k d : EReal))

include b0 b1 b2 b3 b6 in
set_option maxHeartbeats 1600000 in
/-- The output block a grid point stores: the query applied to the new state, normed over the head's channels and gated. -/
theorem out (i : Fin 16) (d : Fin 128) :
    k0_pay1 (k0_pay53 x0 x1 x2 x3 x4 x5 x6) (k0_pay51 x0 x1 x2 x3 x4 x5 x6) (k0_pay45 x2 (k0_pay50 x0 x1 x2 x3 x4 x5 x6) (k0_pay52 x0
      x1 x2 x3 x4 x5 x6) (k0_pay53 x0 x1 x2 x3 x4 x5 x6) (k0_pay51 x0 x1 x2 x3 x4 x5 x6) (k0_pay40 x2 (k0_pay50 x0 x1 x2 x3 x4 x5 x6)
      (k0_pay52 x0 x1 x2 x3 x4 x5 x6) (k0_pay53 x0 x1 x2 x3 x4 x5 x6) (k0_pay51 x0 x1 x2 x3 x4 x5 x6) (k0_pay35 x2 (k0_pay50 x0 x1 x2 x3
      x4 x5 x6) (k0_pay52 x0 x1 x2 x3 x4 x5 x6) (k0_pay53 x0 x1 x2 x3 x4 x5 x6) (k0_pay51 x0 x1 x2 x3 x4 x5 x6) (k0_pay30 x2 (k0_pay50
      x0 x1 x2 x3 x4 x5 x6) (k0_pay52 x0 x1 x2 x3 x4 x5 x6) (k0_pay53 x0 x1 x2 x3 x4 x5 x6) (k0_pay51 x0 x1 x2 x3 x4 x5 x6) (k0_pay25 x2
      (k0_pay50 x0 x1 x2 x3 x4 x5 x6) (k0_pay52 x0 x1 x2 x3 x4 x5 x6) (k0_pay53 x0 x1 x2 x3 x4 x5 x6) (k0_pay51 x0 x1 x2 x3 x4 x5 x6)
      (k0_pay20 x2 (k0_pay50 x0 x1 x2 x3 x4 x5 x6) (k0_pay52 x0 x1 x2 x3 x4 x5 x6) (k0_pay53 x0 x1 x2 x3 x4 x5 x6) (k0_pay51 x0 x1 x2 x3
      x4 x5 x6) (k0_pay15 x2 (k0_pay50 x0 x1 x2 x3 x4 x5 x6) (k0_pay52 x0 x1 x2 x3 x4 x5 x6) (k0_pay53 x0 x1 x2 x3 x4 x5 x6) (k0_pay51
      x0 x1 x2 x3 x4 x5 x6) (k0_pay10 (k0_pay48 x0 x1 x2 x3 x4 x5 x6) (k0_pay49 x0 x1 x2 x3 x4 x5 x6) x2 (k0_pay50 x0 x1 x2 x3 x4 x5 x6)
      (View.ld x6 r0_2)) (k0_pay11 (k0_pay49 x0 x1 x2 x3 x4 x5 x6) x2 (k0_pay50 x0 x1 x2 x3 x4 x5 x6) (View.ld x6 r0_3)) (View.ld x6
      r0_4)) (k0_pay16 x2 (k0_pay50 x0 x1 x2 x3 x4 x5 x6) (k0_pay52 x0 x1 x2 x3 x4 x5 x6) (View.ld x6 r0_5)) (View.ld x6 r0_6))
      (k0_pay21 x2 (k0_pay50 x0 x1 x2 x3 x4 x5 x6) (k0_pay52 x0 x1 x2 x3 x4 x5 x6) (View.ld x6 r0_7)) (View.ld x6 r0_8)) (k0_pay26 x2
      (k0_pay50 x0 x1 x2 x3 x4 x5 x6) (k0_pay52 x0 x1 x2 x3 x4 x5 x6) (View.ld x6 r0_9)) (View.ld x6 r0_10)) (k0_pay31 x2 (k0_pay50 x0
      x1 x2 x3 x4 x5 x6) (k0_pay52 x0 x1 x2 x3 x4 x5 x6) (View.ld x6 r0_11)) (View.ld x6 r0_12)) (k0_pay36 x2 (k0_pay50 x0 x1 x2 x3 x4
      x5 x6) (k0_pay52 x0 x1 x2 x3 x4 x5 x6) (View.ld x6 r0_13)) (View.ld x6 r0_14)) (k0_pay41 x2 (k0_pay50 x0 x1 x2 x3 x4 x5 x6)
      (k0_pay52 x0 x1 x2 x3 x4 x5 x6) (View.ld x6 r0_15)) (View.ld x6 r0_16)) (k0_pay46 x2 (k0_pay50 x0 x1 x2 x3 x4 x5 x6) (k0_pay52 x0
      x1 x2 x3 x4 x5 x6) (View.ld x6 r0_17)) x5 x4 (ix2 i d)
      = normGate (fun d => ∑ k, Q i k * sgm (Q i k) * qscale * next Z V L S i k d) (x5 (ix2 0 d)) (x4 (ix2 i d)) d := by
  have hsum := fun x => (pick (fun n => ∑ k, ((Q i k * sgm (Q i k) * qscale : ℝ) : EReal)
        * ((Real.exp (logf (soft1 (L 0 k) (L 1 k)) (Z n k)) : EReal) * (S n k x : EReal)
          + (((1 - soft1 (L 0 k) (L 1 k)) * sgm (-Z n k) : ℝ) : EReal) * (V n x : EReal))) 0 i).trans
      (show _ = ((∑ k, Q i k * sgm (Q i k) * qscale * next Z V L S i k x : ℝ) : EReal) by
        rw [← sum_real]
        refine Finset.sum_congr rfl fun k _ => ?_
        unfold next
        push_cast
        rfl)
  beta_reduce at hsum
  pointwise [k0_pay1, k0_pay6, k0_pay7, k0_pay8, k0_pay9, k0_pay10, k0_pay11, k0_pay12, k0_pay13, k0_pay14, k0_pay15, k0_pay16, k0_pay17,
      k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53]
  simp only [ld1, ld0, query x0 Q b0, key x3 L b3 x1 Z b1, b2, b6, forget x3 L b3 x1 Z b1 _ 0 0 rfl, forget x3 L b3 x1 Z b1 _ 1 1 rfl, forget x3 L b3 x1 Z b1 _ 2 2 rfl, forget x3 L b3 x1 Z b1 _ 3 3 rfl, forget x3 L b3 x1 Z b1 _ 4 4 rfl, forget x3 L b3 x1 Z b1 _ 5 5 rfl, forget x3 L b3 x1 Z b1 _ 6 6 rfl, forget x3 L b3 x1 Z b1 _ 7 7 rfl, forget x3 L b3 x1 Z b1 _ 8 8 rfl,
      forget x3 L b3 x1 Z b1 _ 9 9 rfl, forget x3 L b3 x1 Z b1 _ 10 10 rfl, forget x3 L b3 x1 Z b1 _ 11 11 rfl, forget x3 L b3 x1 Z b1 _ 12 12 rfl, forget x3 L b3 x1 Z b1 _ 13 13 rfl, forget x3 L b3 x1 Z b1 _ 14 14 rfl, forget x3 L b3 x1 Z b1 _ 15 15 rfl]
  simp only [hsum]
  rfl

end Cert.HgrnStepIdeal.Gates

end
-- ==== Proof.Finite.lean ====
/- The precondition that arrays hold only real numbers, read back entry by entry. -/
module

public import Idealize.ShloMosaic.Lib.ReduceAll
public import Idealize.ShloMosaic.Lib.Pipeline.ValueKit
public import Idealize.ShloMosaic.Lib.Claim

@[expose] public section

noncomputable section

open Idealize.ShloMosaic

namespace Cert.Reals

/-- An extended real whose absolute value is below infinity is a real number. -/
theorem real_of_abs (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- An array whose entries all have an absolute value below infinity holds real numbers. -/
theorem reals_of_all {s : Shape} {axes : List (Fin s.rank)} {u t : Shape} [Subsingleton t.Idx] (x : FVec Ideal s .f32) (hb : (⟨0, ![]⟩ : Shape).BroadcastsInDim s ![])
    (init : u.Idx → BitVec 1) (hr : s.ReducesTo axes t) (hu : 0 < u.numel) (j : t.Idx)
    (h : Host.reduce IntOp.andi (cmpf .olt (Host.absf x) (broadcastInDim s ![] hb (constant (F := Ideal) ⟨0, ![]⟩ .f32 0x7F800000#32))) init hr hu j = 1#1) :
    ∃ f : s.Idx → ℝ, ∀ i, x i = (f i : EReal) := by
  have h1 : ∀ i, ∃ r : ℝ, x i = (r : EReal) := fun i => real_of_abs _ (Host.reduce_andi_all _ _ _ _ _ h i)
  exact ⟨fun i => (h1 i).choose, fun i => (h1 i).choose_spec⟩

end Cert.Reals

end
-- ==== Proof.HgrnStepValue.lean ====
/- The results of the HGRN2 step: tile by tile they are the recurrence's step over the whole arrays. -/
module

public import proofs.«01_k».proof.Defs
public import proofs.«01_k».proof.Proof.Gen.HgrnStepIdeal.Value
public import proofs.«01_k».proof.Proof.HgrnStepRefParts
public import proofs.«01_k».proof.Proof.HgrnOut
public import proofs.«01_k».proof.Proof.Finite
public import proofs.«01_k».proof.Proof.Gen.Pre_finite_hgrn

@[expose] public section

set_option maxRecDepth 16384

noncomputable section

open Idealize.ShloMosaic Idealize.ShloMosaic.TcCoe Idealize.SL.Sem
open Idealize.ShloMosaic.Pipeline (Dat)

namespace Cert.HgrnStepIdeal.Tiles

open Cert.HgrnStepIdeal Cert.HgrnStepIdeal.Gen Cert.Reals
open Cert.HgrnStepRefIdeal.Parts (zOf qOf vOf lbOf nextOf mixedOf)

variable (m : (ℓ : Loc nD τ sig) → Buf (Elt Ideal) ℓ)

/-- Which block each window shows at each grid point. -/
theorem idx : ∀ t : Fin cfg0.N, win0_0.index t = ![512 + (t.val % 8), 20 + (t.val / 8)]
    ∧ win0_1.index t = ![512 + (t.val % 8), 28 + (t.val / 8)] ∧ win0_2.index t = ![512 + (t.val % 8), 36 + (t.val / 8)]
    ∧ win0_3.index t = ![0, t.val / 8] ∧ win0_4.index t = ![512 + (t.val % 8), 44 + (t.val / 8)]
    ∧ win0_5.index t = ![0, 0] ∧ win0_6.index t = ![t.val % 8, t.val / 8, 0, 0]
    ∧ win0_7.index t = ![t.val % 8, t.val / 8] ∧ win0_8.index t = ![t.val % 8, t.val / 8, 0, 0] :=
  (by decide +kernel : ∀ t : Fin grid0.N, _)

theorem lt64 (t : Fin cfg0.N) : t.val < 64 := t.isLt

/-- The sample row and the head of a tile's row. -/
def row (t : Fin cfg0.N) (i : Fin 16) : Fin 128 := ⟨16 * (t.val % 8) + i.val, by omega⟩
def head (t : Fin cfg0.N) : Fin 8 := ⟨t.val / 8, by have := lt64 t; omega⟩

variable (c : Dev nD) (P : Fin 8320 → Fin 16384 → ℝ) (S : Fin 128 → Fin 8 → Fin 128 → Fin 128 → ℝ) (L : Fin 2 → Fin 1024 → ℝ)
  (hP : ∀ r j, m ((c : Thread nD τ).loc main_arg0) (ix2 r j) = (P r j : EReal))
  (hS : ∀ i h k d, m ((c : Thread nD τ).loc main_arg1) (ix4 i h k d) = (S i h k d : EReal))
  (hL : ∀ a j, m ((c : Thread nD τ).loc main_arg2) (ix2 a j) = (L a j : EReal))

include hP in
theorem blk0 (t : Fin cfg0.N) (i : Fin 16) (d : Fin 128) : iblk m c 0 t (ix2 i d) = (qOf P (row t i) (head t) d : EReal) := by
  refine Eq.trans ?_ (hP _ _)
  blk_point [iblk, V, idx t, row, head]

include hP in
theorem blk1 (t : Fin cfg0.N) (i : Fin 16) (d : Fin 128) : iblk m c 1 t (ix2 i d) = (zOf P (row t i) (head t) d : EReal) := by
  refine Eq.trans ?_ (hP _ _)
  blk_point [iblk, V, idx t, row, head]

include hP in
theorem blk2 (t : Fin cfg0.N) (i : Fin 16) (d : Fin 128) : iblk m c 2 t (ix2 i d) = (vOf P (row t i) (head t) d : EReal) := by
  refine Eq.trans ?_ (hP _ _)
  blk_point [iblk, V, idx t, row, head]

include hL in
theorem blk3 (t : Fin cfg0.N) (a : Fin 2) (d : Fin 128) :
    iblk m c 3 t (ix2 a d) = (L a ⟨(head t).val * 128 + d.val, by omega⟩ : EReal) := by
  refine Eq.trans ?_ (hL _ _)
  blk_point [iblk, V, idx t, row, head]

include hS in
theorem blk6 (t : Fin cfg0.N) (i : Fin 16) (k d : Fin 128) : iblk m c 6 t (ix4 i 0 k d) = (S (row t i) (head t) k d : EReal) := by
  refine Eq.trans ?_ (hS _ _ _ _)
  blk_point [iblk, V, idx t, row, head]

include hP hS hL in
theorem point8 (t : Fin cfg0.N) (y) :
    out0_8 (iblk m c 0 t) (iblk m c 1 t) (iblk m c 2 t) (iblk m c 3 t) (iblk m c 4 t) (iblk m c 5 t) (iblk m c 6 t) y
      = Cert.HgrnStepRefIdeal.Parts.STATE (m ((c : Thread nD τ).loc main_arg0)) (m ((c : Thread nD τ).loc main_arg1)) (m ((c : Thread nD τ).loc main_arg2)) (((cfg0.win 8).blk t).view.emb y) := by
  obtain ⟨i, z, k, d, rfl⟩ : ∃ (i : Fin 16) (z : Fin 1) (k d : Fin 128), y = ix4 i z k d := ⟨_, _, _, _, (ix4_eta y).symm⟩
  obtain rfl : z = 0 := Subsingleton.elim _ _
  rw [Gates.state _ _ _ _ _ _ _ _ _ _ _ (blk1 m c P hP t) (blk2 m c P hP t) (blk3 m c L hL t) (blk6 m c S hS t)]
  have e : ((cfg0.win 8).blk t).view.emb (ix4 i 0 k d) = ix4 (row t i) (head t) k d := by
    blk_ext [idx t, row, head]
  rw [e, Cert.HgrnStepRefIdeal.Parts.state_real _ _ _ P S L hP hS hL]
  rfl

include hP hS hL in
theorem point7 (t : Fin cfg0.N) (y) :
    k0_pay1 (k0_pay53 (iblk m c 0 t) (iblk m c 1 t) (iblk m c 2 t) (iblk m c 3 t) (iblk m c 4 t) (iblk m c 5 t) (iblk m c 6 t))
        (k0_pay51 (iblk m c 0 t) (iblk m c 1 t) (iblk m c 2 t) (iblk m c 3 t) (iblk m c 4 t) (iblk m c 5 t) (iblk m c 6 t)) (k0_pay45
        (iblk m c 2 t) (k0_pay50 (iblk m c 0 t) (iblk m c 1 t) (iblk m c 2 t) (iblk m c 3 t) (iblk m c 4 t) (iblk m c 5 t) (iblk m c 6 t))
        (k0_pay52 (iblk m c 0 t) (iblk m c 1 t) (iblk m c 2 t) (iblk m c 3 t) (iblk m c 4 t) (iblk m c 5 t) (iblk m c 6 t)) (k0_pay53
        (iblk m c 0 t) (iblk m c 1 t) (iblk m c 2 t) (iblk m c 3 t) (iblk m c 4 t) (iblk m c 5 t) (iblk m c 6 t)) (k0_pay51 (iblk m c 0 t)
        (iblk m c 1 t) (iblk m c 2 t) (iblk m c 3 t) (iblk m c 4 t) (iblk m c 5 t) (iblk m c 6 t)) (k0_pay40 (iblk m c 2 t) (k0_pay50
        (iblk m c 0 t) (iblk m c 1 t) (iblk m c 2 t) (iblk m c 3 t) (iblk m c 4 t) (iblk m c 5 t) (iblk m c 6 t)) (k0_pay52 (iblk m c 0 t)
        (iblk m c 1 t) (iblk m c 2 t) (iblk m c 3 t) (iblk m c 4 t) (iblk m c 5 t) (iblk m c 6 t)) (k0_pay53 (iblk m c 0 t) (iblk m c 1 t)
        (iblk m c 2 t) (iblk m c 3 t) (iblk m c 4 t) (iblk m c 5 t) (iblk m c 6 t)) (k0_pay51 (iblk m c 0 t) (iblk m c 1 t) (iblk m c 2 t)
        (iblk m c 3 t) (iblk m c 4 t) (iblk m c 5 t) (iblk m c 6 t)) (k0_pay35 (iblk m c 2 t) (k0_pay50 (iblk m c 0 t) (iblk m c 1 t)
        (iblk m c 2 t) (iblk m c 3 t) (iblk m c 4 t) (iblk m c 5 t) (iblk m c 6 t)) (k0_pay52 (iblk m c 0 t) (iblk m c 1 t) (iblk m c 2 t)
        (iblk m c 3 t) (iblk m c 4 t) (iblk m c 5 t) (iblk m c 6 t)) (k0_pay53 (iblk m c 0 t) (iblk m c 1 t) (iblk m c 2 t) (iblk m c 3 t)
        (iblk m c 4 t) (iblk m c 5 t) (iblk m c 6 t)) (k0_pay51 (iblk m c 0 t) (iblk m c 1 t) (iblk m c 2 t) (iblk m c 3 t) (iblk m c 4 t)
        (iblk m c 5 t) (iblk m c 6 t)) (k0_pay30 (iblk m c 2 t) (k0_pay50 (iblk m c 0 t) (iblk m c 1 t) (iblk m c 2 t) (iblk m c 3 t)
        (iblk m c 4 t) (iblk m c 5 t) (iblk m c 6 t)) (k0_pay52 (iblk m c 0 t) (iblk m c 1 t) (iblk m c 2 t) (iblk m c 3 t) (iblk m c 4 t)
        (iblk m c 5 t) (iblk m c 6 t)) (k0_pay53 (iblk m c 0 t) (iblk m c 1 t) (iblk m c 2 t) (iblk m c 3 t) (iblk m c 4 t) (iblk m c 5 t)
        (iblk m c 6 t)) (k0_pay51 (iblk m c 0 t) (iblk m c 1 t) (iblk m c 2 t) (iblk m c 3 t) (iblk m c 4 t) (iblk m c 5 t) (iblk m c 6
        t)) (k0_pay25 (iblk m c 2 t) (k0_pay50 (iblk m c 0 t) (iblk m c 1 t) (iblk m c 2 t) (iblk m c 3 t) (iblk m c 4 t) (iblk m c 5 t)
        (iblk m c 6 t)) (k0_pay52 (iblk m c 0 t) (iblk m c 1 t) (iblk m c 2 t) (iblk m c 3 t) (iblk m c 4 t) (iblk m c 5 t) (iblk m c 6
        t)) (k0_pay53 (iblk m c 0 t) (iblk m c 1 t) (iblk m c 2 t) (iblk m c 3 t) (iblk m c 4 t) (iblk m c 5 t) (iblk m c 6 t)) (k0_pay51
        (iblk m c 0 t) (iblk m c 1 t) (iblk m c 2 t) (iblk m c 3 t) (iblk m c 4 t) (iblk m c 5 t) (iblk m c 6 t)) (k0_pay20 (iblk m c 2 t)
        (k0_pay50 (iblk m c 0 t) (iblk m c 1 t) (iblk m c 2 t) (iblk m c 3 t) (iblk m c 4 t) (iblk m c 5 t) (iblk m c 6 t)) (k0_pay52
        (iblk m c 0 t) (iblk m c 1 t) (iblk m c 2 t) (iblk m c 3 t) (iblk m c 4 t) (iblk m c 5 t) (iblk m c 6 t)) (k0_pay53 (iblk m c 0 t)
        (iblk m c 1 t) (iblk m c 2 t) (iblk m c 3 t) (iblk m c 4 t) (iblk m c 5 t) (iblk m c 6 t)) (k0_pay51 (iblk m c 0 t) (iblk m c 1 t)
        (iblk m c 2 t) (iblk m c 3 t) (iblk m c 4 t) (iblk m c 5 t) (iblk m c 6 t)) (k0_pay15 (iblk m c 2 t) (k0_pay50 (iblk m c 0 t)
        (iblk m c 1 t) (iblk m c 2 t) (iblk m c 3 t) (iblk m c 4 t) (iblk m c 5 t) (iblk m c 6 t)) (k0_pay52 (iblk m c 0 t) (iblk m c 1 t)
        (iblk m c 2 t) (iblk m c 3 t) (iblk m c 4 t) (iblk m c 5 t) (iblk m c 6 t)) (k0_pay53 (iblk m c 0 t) (iblk m c 1 t) (iblk m c 2 t)
        (iblk m c 3 t) (iblk m c 4 t) (iblk m c 5 t) (iblk m c 6 t)) (k0_pay51 (iblk m c 0 t) (iblk m c 1 t) (iblk m c 2 t) (iblk m c 3 t)
        (iblk m c 4 t) (iblk m c 5 t) (iblk m c 6 t)) (k0_pay10 (k0_pay48 (iblk m c 0 t) (iblk m c 1 t) (iblk m c 2 t) (iblk m c 3 t)
        (iblk m c 4 t) (iblk m c 5 t) (iblk m c 6 t)) (k0_pay49 (iblk m c 0 t) (iblk m c 1 t) (iblk m c 2 t) (iblk m c 3 t) (iblk m c 4 t)
        (iblk m c 5 t) (iblk m c 6 t)) (iblk m c 2 t) (k0_pay50 (iblk m c 0 t) (iblk m c 1 t) (iblk m c 2 t) (iblk m c 3 t) (iblk m c 4 t)
        (iblk m c 5 t) (iblk m c 6 t)) (View.ld (iblk m c 6 t) r0_2)) (k0_pay11 (k0_pay49 (iblk m c 0 t) (iblk m c 1 t) (iblk m c 2 t)
        (iblk m c 3 t) (iblk m c 4 t) (iblk m c 5 t) (iblk m c 6 t)) (iblk m c 2 t) (k0_pay50 (iblk m c 0 t) (iblk m c 1 t) (iblk m c 2 t)
        (iblk m c 3 t) (iblk m c 4 t) (iblk m c 5 t) (iblk m c 6 t)) (View.ld (iblk m c 6 t) r0_3)) (View.ld (iblk m c 6 t) r0_4))
        (k0_pay16 (iblk m c 2 t) (k0_pay50 (iblk m c 0 t) (iblk m c 1 t) (iblk m c 2 t) (iblk m c 3 t) (iblk m c 4 t) (iblk m c 5 t) (iblk
        m c 6 t)) (k0_pay52 (iblk m c 0 t) (iblk m c 1 t) (iblk m c 2 t) (iblk m c 3 t) (iblk m c 4 t) (iblk m c 5 t) (iblk m c 6 t))
        (View.ld (iblk m c 6 t) r0_5)) (View.ld (iblk m c 6 t) r0_6)) (k0_pay21 (iblk m c 2 t) (k0_pay50 (iblk m c 0 t) (iblk m c 1 t)
        (iblk m c 2 t) (iblk m c 3 t) (iblk m c 4 t) (iblk m c 5 t) (iblk m c 6 t)) (k0_pay52 (iblk m c 0 t) (iblk m c 1 t) (iblk m c 2 t)
        (iblk m c 3 t) (iblk m c 4 t) (iblk m c 5 t) (iblk m c 6 t)) (View.ld (iblk m c 6 t) r0_7)) (View.ld (iblk m c 6 t) r0_8))
        (k0_pay26 (iblk m c 2 t) (k0_pay50 (iblk m c 0 t) (iblk m c 1 t) (iblk m c 2 t) (iblk m c 3 t) (iblk m c 4 t) (iblk m c 5 t) (iblk
        m c 6 t)) (k0_pay52 (iblk m c 0 t) (iblk m c 1 t) (iblk m c 2 t) (iblk m c 3 t) (iblk m c 4 t) (iblk m c 5 t) (iblk m c 6 t))
        (View.ld (iblk m c 6 t) r0_9)) (View.ld (iblk m c 6 t) r0_10)) (k0_pay31 (iblk m c 2 t) (k0_pay50 (iblk m c 0 t) (iblk m c 1 t)
        (iblk m c 2 t) (iblk m c 3 t) (iblk m c 4 t) (iblk m c 5 t) (iblk m c 6 t)) (k0_pay52 (iblk m c 0 t) (iblk m c 1 t) (iblk m c 2 t)
        (iblk m c 3 t) (iblk m c 4 t) (iblk m c 5 t) (iblk m c 6 t)) (View.ld (iblk m c 6 t) r0_11)) (View.ld (iblk m c 6 t) r0_12))
        (k0_pay36 (iblk m c 2 t) (k0_pay50 (iblk m c 0 t) (iblk m c 1 t) (iblk m c 2 t) (iblk m c 3 t) (iblk m c 4 t) (iblk m c 5 t) (iblk
        m c 6 t)) (k0_pay52 (iblk m c 0 t) (iblk m c 1 t) (iblk m c 2 t) (iblk m c 3 t) (iblk m c 4 t) (iblk m c 5 t) (iblk m c 6 t))
        (View.ld (iblk m c 6 t) r0_13)) (View.ld (iblk m c 6 t) r0_14)) (k0_pay41 (iblk m c 2 t) (k0_pay50 (iblk m c 0 t) (iblk m c 1 t)
        (iblk m c 2 t) (iblk m c 3 t) (iblk m c 4 t) (iblk m c 5 t) (iblk m c 6 t)) (k0_pay52 (iblk m c 0 t) (iblk m c 1 t) (iblk m c 2 t)
        (iblk m c 3 t) (iblk m c 4 t) (iblk m c 5 t) (iblk m c 6 t)) (View.ld (iblk m c 6 t) r0_15)) (View.ld (iblk m c 6 t) r0_16))
        (k0_pay46 (iblk m c 2 t) (k0_pay50 (iblk m c 0 t) (iblk m c 1 t) (iblk m c 2 t) (iblk m c 3 t) (iblk m c 4 t) (iblk m c 5 t) (iblk
        m c 6 t)) (k0_pay52 (iblk m c 0 t) (iblk m c 1 t) (iblk m c 2 t) (iblk m c 3 t) (iblk m c 4 t) (iblk m c 5 t) (iblk m c 6 t))
        (View.ld (iblk m c 6 t) r0_17)) (iblk m c 5 t) (iblk m c 4 t) y
      = Cert.HgrnStepRefIdeal.Parts.OUT (m ((c : Thread nD τ).loc main_arg0)) (m ((c : Thread nD τ).loc main_arg1)) (m ((c : Thread nD τ).loc main_arg2)) (m ((c : Thread nD τ).loc main_arg3)) (((cfg0.win 7).blk t).view.emb y) := by
  obtain ⟨i, d, rfl⟩ : ∃ (i : Fin 16) (d : Fin 128), y = ix2 i d := ⟨_, _, (ix2_eta y).symm⟩
  refine (Gates.out _ _ _ _ _ _ _ _ _ _ _ _ (blk0 m c P hP t) (blk1 m c P hP t) (blk2 m c P hP t) (blk3 m c L hL t) (blk6 m c S hS t) i d).trans ?_
  have e : ((cfg0.win 7).blk t).view.emb (ix2 i d) = ix2 (row t i) ⟨(head t).val * 128 + d.val, by omega⟩ := by
    blk_ext [idx t, row, head]
  have e1 : (⟨((head t).val * 128 + d.val) / 128, by omega⟩ : Fin 8) = head t := Fin.ext (by simp; omega)
  have e2 : (⟨((head t).val * 128 + d.val) % 128, Nat.mod_lt _ (by decide)⟩ : Fin 128) = d := Fin.ext (by simp)
  have e5 : iblk m c 5 t (ix2 0 d) = m ((c : Thread nD τ).loc main_arg3) (ix1 d) := by
    blk_point [iblk, V, idx t, row, head]
  have e4 : iblk m c 4 t (ix2 i d) = m ((c : Thread nD τ).loc main_arg0)
      (ix2 ⟨8192 + (row t i).val, by omega⟩ ⟨5632 + ((head t).val * 128 + d.val), by omega⟩) := by
    blk_point [iblk, V, idx t, row, head]
  rw [e, Cert.HgrnStepRefIdeal.Parts.out_real _ _ _ _ P S L hP hS hL, e4, e5]
  simp only [e1, e2]
  rfl

include hP hS hL in
/-- The output rows after the run. -/
theorem final7 : (dats m 0 c).arrAt 7 (cfgs 0).N = Cert.HgrnStepRefIdeal.Parts.OUT (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  exact point7 m c P S L hP hS hL t y

include hP hS hL in
/-- The states after the run. -/
theorem final8 : (dats m 0 c).arrAt 8 (cfgs 0).N = Cert.HgrnStepRefIdeal.Parts.STATE (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  exact point8 m c P S L hP hS hL t y

/-- What the precondition says of the three arrays it names. -/
theorem reals (h : Cert.Pre_HgrnStepIdeal_finite_hgrn m) :
    ∃ (P : Fin 8320 → Fin 16384 → ℝ) (S : Fin 128 → Fin 8 → Fin 128 → Fin 128 → ℝ) (L : Fin 2 → Fin 1024 → ℝ),
      (∀ r j, m ((c : Thread nD τ).loc main_arg0) (ix2 r j) = (P r j : EReal))
      ∧ (∀ i h k d, m ((c : Thread nD τ).loc main_arg1) (ix4 i h k d) = (S i h k d : EReal))
      ∧ (∀ a j, m ((c : Thread nD τ).loc main_arg2) (ix2 a j) = (L a j : EReal)) := by
  have h := congrFun (h c) (fun a => a.elim0)
  obtain ⟨h, h2⟩ := IntOp.andi_eq_one.1 h
  obtain ⟨h0, h1⟩ := IntOp.andi_eq_one.1 h
  have : Subsingleton (Shape.Idx Cert.Pre_finite_hgrn.S_) := ⟨fun a b => funext fun a => a.elim0⟩
  obtain ⟨f0, g0⟩ := reals_of_all _ _ _ _ _ _ h0
  obtain ⟨f1, g1⟩ := reals_of_all _ _ _ _ _ _ h1
  obtain ⟨f2, g2⟩ := reals_of_all _ _ _ _ _ _ h2
  exact ⟨fun r j => f0 (ix2 r j), fun i h k d => f1 (ix4 i h k d), fun a j => f2 (ix2 a j), fun _ _ => g0 _, fun _ _ _ _ => g1 _, fun _ _ => g2 _⟩

end Cert.HgrnStepIdeal.Tiles

namespace Cert.Proof

/-- On real numbers the tiled HGRN2 step and the plain one end with the same output rows and the same states. -/
theorem hgrnStep_algebraic : Cert.algebraic_HgrnStepIdeal_HgrnStepRefIdeal_pre_finite_hgrn := by
  pair_intro
  · run_from Cert.HgrnStepIdeal.Value.run_blocks m g
  · refine θ_run_mono (Cert.HgrnStepRefIdeal.Value.run m' g') ?_
    intro r hr c
    obtain ⟨h0, h1, ha⟩ := hr c
    obtain ⟨P, S, L, hP, hS, hL⟩ := Cert.HgrnStepIdeal.Tiles.reals m c hpre
    obtain ⟨e0, e1, e2, e3⟩ := hagree c
    refine ⟨h0.trans ?_, h1.trans ?_, ha⟩
    · refine (Cert.HgrnStepRefIdeal.Parts.out_eq m' c).trans ?_
      rw [e0, e1, e2, e3]
      exact (Cert.HgrnStepIdeal.Tiles.final7 m c P S L hP hS hL).symm
    · refine (Cert.HgrnStepRefIdeal.Parts.state_eq m' c).trans ?_
      rw [e0, e1, e2]
      exact (Cert.HgrnStepIdeal.Tiles.final8 m c P S L hP hS hL).symm

end Cert.Proof
-- ==== Proof.FfnUpValue.lean ====
/- The result of the feed-forward up projection: `silu(n · w₀) · (n · w₁)` of the normed rows `n`, tile by tile, is that formula over the whole arrays. -/
module

public import proofs.«01_k».proof.Defs
public import proofs.«01_k».proof.Proof.Gen.FfnUpIdeal.Value
public import proofs.«01_k».proof.Proof.Gen.FfnUpRefIdeal.Run
public import Idealize.ShloMosaic.Lib.Pipeline.ValueKit
public import Idealize.ShloMosaic.Lib.Claim
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.FfnUpIdeal.Tiles

open Cert.FfnUpIdeal Cert.FfnUpIdeal.Gen

variable (m : (ℓ : Loc nD τ sig) → Buf (Elt Ideal) ℓ)

/-- The root-mean-square norm of the rows, with a weight for each column. -/
abbrev NORM (x : FVec Ideal Cert.FfnUpRefIdeal.S8320x2048 .f32) (w : FVec Ideal Cert.FfnUpRefIdeal.S2048 .f32) : FVec Ideal Cert.FfnUpRefIdeal.S8320x2048 .f32 :=
  mulf (mulf x (broadcastInDim Cert.FfnUpRefIdeal.S8320x2048 ![0, 1] Cert.FfnUpRefIdeal.Gen.bcast_S8320x1_S8320x2048_0_1
      (Host.rsqrt (addf (Host.divf (broadcastInDim Cert.FfnUpRefIdeal.S8320x1 ![0] Cert.FfnUpRefIdeal.Gen.bcast_S8320_S8320x1_0
          (Host.reduceAdd (mulf x x) (constant Cert.FfnUpRefIdeal.S_ .f32 0x00000000#32) Cert.FfnUpRefIdeal.Gen.reducesTo_S8320x2048_S8320_d1 Cert.FfnUpRefIdeal.Gen.h_S_))
          (broadcastInDim Cert.FfnUpRefIdeal.S8320x1 ![] Cert.FfnUpRefIdeal.Gen.bcast_S_S8320x1 (constant Cert.FfnUpRefIdeal.S_ .f32 0x45000000#32)))
        (broadcastInDim Cert.FfnUpRefIdeal.S8320x1 ![] Cert.FfnUpRefIdeal.Gen.bcast_S_S8320x1 (constant Cert.FfnUpRefIdeal.S_ .f32 0x358637BD#32))))))
    (broadcastInDim Cert.FfnUpRefIdeal.S8320x2048 ![0, 1] Cert.FfnUpRefIdeal.Gen.bcast_S1x2048_S8320x2048_0_1
      (broadcastInDim Cert.FfnUpRefIdeal.S1x2048 ![1] Cert.FfnUpRefIdeal.Gen.bcast_S2048_S1x2048_1 w))

/-- The normed rows times both weight halves. -/
abbrev UP (x : FVec Ideal Cert.FfnUpRefIdeal.S8320x2048 .f32) (nw : FVec Ideal Cert.FfnUpRefIdeal.S2048 .f32) (w : FVec Ideal Cert.FfnUpRefIdeal.S2048x11264 .f32) :
    FVec Ideal Cert.FfnUpRefIdeal.S8320x11264 .f32 :=
  Host.dotGeneral Cert.FfnUpRefIdeal.dot_S8320x2048_S2048x11264_S8320x11264_1_0_0_1_n_n none (NORM x nw) w

/-- The gate half. -/
abbrev GATE (x : FVec Ideal Cert.FfnUpRefIdeal.S8320x2048 .f32) (nw : FVec Ideal Cert.FfnUpRefIdeal.S2048 .f32) (w : FVec Ideal Cert.FfnUpRefIdeal.S2048x11264 .f32) :
    FVec Ideal Cert.FfnUpRefIdeal.S8320x5632 .f32 :=
  extractStridedSlice Cert.FfnUpRefIdeal.S8320x5632 ![0, 0] (UP x nw w) Cert.FfnUpRefIdeal.Gen.slices_S8320x11264_S8320x5632_0_0

/-- The reference's result as a function of the three arguments. -/
abbrev REF (x : FVec Ideal Cert.FfnUpRefIdeal.S8320x2048 .f32) (nw : FVec Ideal Cert.FfnUpRefIdeal.S2048 .f32) (w : FVec Ideal Cert.FfnUpRefIdeal.S2048x11264 .f32) :
    FVec Ideal Cert.FfnUpRefIdeal.S8320x5632 .bf16 :=
  truncf .bf16 (mulf (mulf (GATE x nw w)
      (Host.divf (broadcastInDim Cert.FfnUpRefIdeal.S8320x5632 ![] Cert.FfnUpRefIdeal.Gen.bcast_S_S8320x5632 (constant Cert.FfnUpRefIdeal.S_ .f32 0x3F800000#32))
        (addf (broadcastInDim Cert.FfnUpRefIdeal.S8320x5632 ![] Cert.FfnUpRefIdeal.Gen.bcast_S_S8320x5632 (constant Cert.FfnUpRefIdeal.S_ .f32 0x3F800000#32))
          (Host.exp (Host.negf (GATE x nw w))))))
    (extractStridedSlice Cert.FfnUpRefIdeal.S8320x5632 ![0, 5632] (UP x nw w) Cert.FfnUpRefIdeal.Gen.slices_S8320x11264_S8320x5632_0_5632))
    Cert.FfnUpRefIdeal.Gen.bitsLt_bf16_f32

/-- Which block each window shows at each grid point. -/
theorem idx : ∀ t : Fin cfg0.N, win0_0.index t = ![t.val / 11, 0] ∧ win0_1.index t = ![0, 0]
    ∧ win0_2.index t = ![0, t.val % 11] ∧ win0_3.index t = ![0, t.val % 11 + 11]
    ∧ win0_4.index t = ![t.val / 11, t.val % 11] :=
  (by decide +kernel : ∀ t : Fin grid0.N, _)

/-- The normed rows a grid point writes to its scratch are the reference's normed rows of its row tile. -/
theorem norm_point (c : Dev nD) (t : Fin cfg0.N) (y) :
    k0_pay1 (iblk m c 0 t) (iblk m c 1 t) y
      = NORM (m ((c : Thread nD τ).loc main_arg0)) (m ((c : Thread nD τ).loc main_arg1)) (((cfg0.win 0).blk t).view.emb y) := by
  pointwise [k0_pay1, NORM]
  blk_point [iblk, V, idx t]

/-- The reference's normed rows of the row tile of a grid point. -/
def rows (c : Dev nD) (t : Fin cfg0.N) : FVec Ideal S1040x2048 .bf16 := fun y =>
  NORM (m ((c : Thread nD τ).loc main_arg0)) (m ((c : Thread nD τ).loc main_arg1)) (((cfg0.win 0).blk t).view.emb y)

/-- The points of a run of 11 have the same row tile. -/
theorem rows_run (c : Dev nD) (t : Fin cfg0.N) :
    rows m c ⟨11 * (t.val / 11), Pipeline.run_start_lt t⟩ = rows m c t := by
  funext y
  unfold rows
  congr 1
  blk_ext [idx t, idx ⟨11 * (t.val / 11), Pipeline.run_start_lt t⟩]

/-- The later points of a run leave the scratch as it is. -/
theorem carried (c : Dev nD) (t : Fin cfg0.N) (h : ¬t.val % 11 = 0) :
    (outsAt0 m c t.val t.isLt).2 = (outsAt0 m c (t.val - 1) (Nat.lt_of_le_of_lt (Nat.sub_le _ _) t.isLt)).2 := by
  rw [outsAt0_B m c t h]
  rfl

/-- After every grid point the scratch holds the normed rows of that point's row tile: the first point of a run of 11
    writes them, the others leave them. -/
theorem scratch (c : Dev nD) (t : Fin cfg0.N) : (outsAt0 m c t.val t.isLt).2 = rows m c t := by
  rw [Pipeline.eq_of_write_hold (fun n h => (outsAt0 m c n h).2) 11 (rows m c) ?_ ?_ t]
  · exact rows_run m c t
  · intro t h
    rw [outsAt0_A m c t h]
    frame_out
    exact funext fun y => norm_point m c t y
  · exact carried m c

/-- What a grid point stores at an index of its tile, from the normed rows of its row tile, is the reference at the
    index of the array it belongs to. -/
theorem point (c : Dev nD) (t : Fin cfg0.N) (y) :
    k0_pay2 (rows m c t) (iblk m c 2 t) (iblk m c 3 t) y
      = REF (m ((c : Thread nD τ).loc main_arg0)) (m ((c : Thread nD τ).loc main_arg1)) (m ((c : Thread nD τ).loc main_arg2)) (((cfg0.win 4).blk t).view.emb y) := by
  pointwise [k0_pay2, rows, NORM, UP, GATE, REF, Ideal.logistic]
  blk_point [iblk, V, idx t]

/-- The result array after the run. -/
theorem final (c : Dev nD) : (dats m 0 c).arrAt 4 (cfgs 0).N = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have hs := scratch m c t
  by_cases h : t.val % 11 = 0
  · rw [outsAt0_A m c t h] at hs ⊢
    frame_out at hs
    frame_out
    rw [hs]
    exact point m c t y
  · rw [carried m c t h] at hs
    rw [outsAt0_B m c t h]
    frame_out
    rw [read_unread_whole, hs]
    exact point m c t y

end Cert.FfnUpIdeal.Tiles

namespace Cert.Proof

/-- The tiled up projection and the plain one end with the same result. -/
theorem ffnUp_algebraic : Cert.algebraic_FfnUpIdeal_FfnUpRefIdeal := by
  pair_intro
  · run_from Cert.FfnUpIdeal.Value.run_blocks m g
  · run_from Cert.FfnUpRefIdeal.Value.run m' g'
    exact (Cert.FfnUpIdeal.Tiles.final m c).symm

end Cert.Proof
-- ==== Proof.FfnDownValue.lean ====
/- The result of the feed-forward down projection: `x + ½ · (up · w)`, tile by tile, is that formula over the whole arrays. -/
module

public import proofs.«01_k».proof.Defs
public import proofs.«01_k».proof.Proof.Gen.FfnDownIdeal.Value
public import proofs.«01_k».proof.Proof.Gen.FfnDownRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Tiles

open Cert.FfnDownIdeal Cert.FfnDownIdeal.Gen

variable (m : (ℓ : Loc nD τ sig) → Buf (Elt Ideal) ℓ)

/-- The reference's result as a function of the three arguments. -/
abbrev REF (up : FVec Ideal Cert.FfnDownRefIdeal.S8320x5632 .bf16) (w : FVec Ideal Cert.FfnDownRefIdeal.S5632x2048 .f32)
    (x : FVec Ideal Cert.FfnDownRefIdeal.S8320x2048 .f32) : FVec Ideal Cert.FfnDownRefIdeal.S8320x2048 .f32 :=
  addf x (mulf (broadcastInDim Cert.FfnDownRefIdeal.S8320x2048 ![] Cert.FfnDownRefIdeal.Gen.bcast_S_S8320x2048
      (constant Cert.FfnDownRefIdeal.S_ .f32 0x3F000000#32))
    (Host.dotGeneral Cert.FfnDownRefIdeal.dot_S8320x5632_S5632x2048_S8320x2048_1_0_0_1_n_n none
      (extf .f32 up Cert.FfnDownRefIdeal.Gen.bitsLt_bf16_f32) w))

/-- Which block each window shows at each grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What a grid point stores at an index of its tile is the reference at the index of the array it belongs to. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1))
          (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N = REF (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

end Cert.FfnDownIdeal.Tiles

namespace Cert.Proof

/-- The tiled down projection and the plain one end with the same result. -/
theorem ffnDown_algebraic : Cert.algebraic_FfnDownIdeal_FfnDownRefIdeal := by
  pair_intro
  · run_from Cert.FfnDownIdeal.Value.run_blocks m g
  · run_from Cert.FfnDownRefIdeal.Value.run m' g'
    exact (Cert.FfnDownIdeal.Tiles.final m c).symm

end Cert.Proof
-- ==== Proof.InProjValue.lean ====
/- The result of the input projection: the normed rows times the weights, tile by tile, is that product over the whole arrays. -/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Claim
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.InProjIdeal.Tiles

open Cert.InProjIdeal Cert.InProjIdeal.Gen

variable (m : (ℓ : Loc nD τ sig) → Buf (Elt Ideal) ℓ)

/-- The root-mean-square norm of the rows, with a weight for each column. -/
abbrev NORM (x : FVec Ideal Cert.InProjRefIdeal.S8320x2048 .f32) (w : FVec Ideal Cert.InProjRefIdeal.S2048 .f32) : FVec Ideal Cert.InProjRefIdeal.S8320x2048 .f32 :=
  mulf (mulf x (broadcastInDim Cert.InProjRefIdeal.S8320x2048 ![0, 1] Cert.InProjRefIdeal.Gen.bcast_S8320x1_S8320x2048_0_1
      (Host.rsqrt (addf (Host.divf (broadcastInDim Cert.InProjRefIdeal.S8320x1 ![0] Cert.InProjRefIdeal.Gen.bcast_S8320_S8320x1_0
          (Host.reduceAdd (mulf x x) (constant Cert.InProjRefIdeal.S_ .f32 0x00000000#32) Cert.InProjRefIdeal.Gen.reducesTo_S8320x2048_S8320_d1 Cert.InProjRefIdeal.Gen.h_S_))
          (broadcastInDim Cert.InProjRefIdeal.S8320x1 ![] Cert.InProjRefIdeal.Gen.bcast_S_S8320x1 (constant Cert.InProjRefIdeal.S_ .f32 0x45000000#32)))
        (broadcastInDim Cert.InProjRefIdeal.S8320x1 ![] Cert.InProjRefIdeal.Gen.bcast_S_S8320x1 (constant Cert.InProjRefIdeal.S_ .f32 0x358637BD#32))))))
    (broadcastInDim Cert.InProjRefIdeal.S8320x2048 ![0, 1] Cert.InProjRefIdeal.Gen.bcast_S1x2048_S8320x2048_0_1
      (broadcastInDim Cert.InProjRefIdeal.S1x2048 ![1] Cert.InProjRefIdeal.Gen.bcast_S2048_S1x2048_1 w))

/-- The reference's result as a function of the three arguments. -/
abbrev REF (x : FVec Ideal Cert.InProjRefIdeal.S8320x2048 .f32) (nw : FVec Ideal Cert.InProjRefIdeal.S2048 .f32) (w : FVec Ideal Cert.InProjRefIdeal.S2048x16384 .f32) :
    FVec Ideal Cert.InProjRefIdeal.S8320x16384 .f32 :=
  Host.dotGeneral Cert.InProjRefIdeal.dot_S8320x2048_S2048x16384_S8320x16384_1_0_0_1_n_n none (NORM x nw) w

/-- Which block each window shows at each grid point. -/
theorem idx : ∀ t : Fin cfg0.N, win0_0.index t = ![t.val / 16, 0] ∧ win0_1.index t = ![0, 0]
    ∧ win0_2.index t = ![0, t.val % 16] ∧ win0_3.index t = ![t.val / 16, t.val % 16] :=
  (by decide +kernel : ∀ t : Fin grid0.N, _)

/-- The normed rows a grid point writes to its scratch are the reference's normed rows of its row tile. -/
theorem norm_point (c : Dev nD) (t : Fin cfg0.N) (y) :
    k0_pay1 (iblk m c 0 t) (iblk m c 1 t) y
      = NORM (m ((c : Thread nD τ).loc main_arg0)) (m ((c : Thread nD τ).loc main_arg1)) (((cfg0.win 0).blk t).view.emb y) := by
  pointwise [k0_pay1, NORM]
  blk_point [iblk, V, idx t]

/-- The reference's normed rows of the row tile of a grid point. -/
def rows (c : Dev nD) (t : Fin cfg0.N) : FVec Ideal S1040x2048 .bf16 := fun y =>
  NORM (m ((c : Thread nD τ).loc main_arg0)) (m ((c : Thread nD τ).loc main_arg1)) (((cfg0.win 0).blk t).view.emb y)

/-- The points of a run of 16 have the same row tile. -/
theorem rows_run (c : Dev nD) (t : Fin cfg0.N) :
    rows m c ⟨16 * (t.val / 16), Pipeline.run_start_lt t⟩ = rows m c t := by
  funext y
  unfold rows
  congr 1
  blk_ext [idx t, idx ⟨16 * (t.val / 16), Pipeline.run_start_lt t⟩]

/-- The later points of a run leave the scratch as it is. -/
theorem carried (c : Dev nD) (t : Fin cfg0.N) (h : ¬t.val % 16 = 0) :
    (outsAt0 m c t.val t.isLt).2 = (outsAt0 m c (t.val - 1) (Nat.lt_of_le_of_lt (Nat.sub_le _ _) t.isLt)).2 := by
  rw [outsAt0_B m c t h]
  rfl

/-- After every grid point the scratch holds the normed rows of that point's row tile: the first point of a run of 16
    writes them, the others leave them. -/
theorem scratch (c : Dev nD) (t : Fin cfg0.N) : (outsAt0 m c t.val t.isLt).2 = rows m c t := by
  rw [Pipeline.eq_of_write_hold (fun n h => (outsAt0 m c n h).2) 16 (rows m c) ?_ ?_ t]
  · exact rows_run m c t
  · intro t h
    rw [outsAt0_A m c t h]
    frame_out
    exact funext fun y => norm_point m c t y
  · exact carried m c

/-- What a grid point stores at an index of its tile, from the normed rows of its row tile, is the reference at the
    index of the array it belongs to. -/
theorem point (c : Dev nD) (t : Fin cfg0.N) (y) :
    k0_pay2 (rows m c t) (iblk m c 2 t) y
      = REF (m ((c : Thread nD τ).loc main_arg0)) (m ((c : Thread nD τ).loc main_arg1)) (m ((c : Thread nD τ).loc main_arg2)) (((cfg0.win 3).blk t).view.emb y) := by
  pointwise [k0_pay2, rows, NORM, REF, Ideal.logistic]
  blk_point [iblk, V, idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hs := scratch m c t
  by_cases h : t.val % 16 = 0
  · rw [outsAt0_A m c t h] at hs ⊢
    frame_out at hs
    frame_out
    rw [hs]
    exact point m c t y
  · rw [carried m c t h] at hs
    rw [outsAt0_B m c t h]
    frame_out
    rw [read_unread_whole, hs]
    exact point m c t y

end Cert.InProjIdeal.Tiles

namespace Cert.Proof

/-- The tiled input projection and the plain one end with the same result. -/
theorem inProj_algebraic : Cert.algebraic_InProjIdeal_InProjRefIdeal := by
  pair_intro
  · run_from Cert.InProjIdeal.Value.run_blocks m g
  · run_from Cert.InProjRefIdeal.Value.run m' g'
    exact (Cert.InProjIdeal.Tiles.final m c).symm

end Cert.Proof
-- ==== Proof.MergeValue.lean ====
/- The merge of the three mixers: the gated sum of three projections, tile by tile, is that sum over the whole arrays. -/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Tiles

open Cert.MergeIdeal Cert.MergeIdeal.Gen

variable (m : (ℓ : Loc nD τ sig) → Buf (Elt Ideal) ℓ)

/-- The three gates: the logistic function of the gate columns, as `rows × 3 × columns`. -/
abbrev GATES (proj : FVec Ideal Cert.MergeRefIdeal.S8320x16384 .f32) : FVec Ideal Cert.MergeRefIdeal.S8320x3x2048 .f32 :=
  shapeCast _ (Host.divf (broadcastInDim Cert.MergeRefIdeal.S8320x6144 ![] Cert.MergeRefIdeal.Gen.bcast_S_S8320x6144
      (constant Cert.MergeRefIdeal.S_ .f32 0x3F800000#32))
    (addf (broadcastInDim Cert.MergeRefIdeal.S8320x6144 ![] Cert.MergeRefIdeal.Gen.bcast_S_S8320x6144
        (constant Cert.MergeRefIdeal.S_ .f32 0x3F800000#32))
      (Host.exp (Host.negf (extractStridedSlice Cert.MergeRefIdeal.S8320x6144 ![0, 9728] proj
        Cert.MergeRefIdeal.Gen.slices_S8320x16384_S8320x6144_0_9728)))))
    Cert.MergeRefIdeal.Gen.shapeCasts_S8320x6144_S8320x3x2048

/-- One mixer's projection. -/
abbrev PROJ (y : FVec Ideal Cert.MergeRefIdeal.S8320x1024 .bf16) (w : FVec Ideal Cert.MergeRefIdeal.S1024x2048 .f32) :
    FVec Ideal Cert.MergeRefIdeal.S8320x2048 .f32 :=
  Host.dotGeneral Cert.MergeRefIdeal.dot_S8320x1024_S1024x2048_S8320x2048_1_0_0_1_n_n none
    (extf .f32 y Cert.MergeRefIdeal.Gen.bitsLt_bf16_f32) w

/-- The reference's result as a function of the seven arguments. -/
abbrev REF (y0 y1 y2 : FVec Ideal Cert.MergeRefIdeal.S8320x1024 .bf16) (w0 w1 w2 : FVec Ideal Cert.MergeRefIdeal.S1024x2048 .f32)
    (proj : FVec Ideal Cert.MergeRefIdeal.S8320x16384 .f32) : FVec Ideal Cert.MergeRefIdeal.S8320x2048 .bf16 :=
  truncf .bf16 (addf (addf
      (mulf (shapeCast _ (extractStridedSlice Cert.MergeRefIdeal.S8320x1x2048 ![0, 0, 0] (GATES proj)
        Cert.MergeRefIdeal.Gen.slices_S8320x3x2048_S8320x1x2048_0_0_0) Cert.MergeRefIdeal.Gen.shapeCasts_S8320x1x2048_S8320x2048)
        (PROJ y0 w0))
      (mulf (shapeCast _ (extractStridedSlice Cert.MergeRefIdeal.S8320x1x2048 ![0, 1, 0] (GATES proj)
        Cert.MergeRefIdeal.Gen.slices_S8320x3x2048_S8320x1x2048_0_1_0) Cert.MergeRefIdeal.Gen.shapeCasts_S8320x1x2048_S8320x2048)
        (PROJ y1 w1)))
      (mulf (shapeCast _ (extractStridedSlice Cert.MergeRefIdeal.S8320x1x2048 ![0, 2, 0] (GATES proj)
        Cert.MergeRefIdeal.Gen.slices_S8320x3x2048_S8320x1x2048_0_2_0) Cert.MergeRefIdeal.Gen.shapeCasts_S8320x1x2048_S8320x2048)
        (PROJ y2 w2))) Cert.MergeRefIdeal.Gen.bitsLt_bf16_f32

/-- Which block each window shows at each grid point. -/
theorem idx : ∀ t : Fin cfg0.N, win0_0.index t = ![t.val / 4, 0] ∧ win0_1.index t = ![t.val / 4, 0]
    ∧ win0_2.index t = ![t.val / 4, 0] ∧ win0_3.index t = ![0, t.val % 4] ∧ win0_4.index t = ![0, t.val % 4]
    ∧ win0_5.index t = ![0, t.val % 4] ∧ win0_6.index t = ![t.val / 4, t.val % 4 + 19]
    ∧ win0_7.index t = ![t.val / 4, t.val % 4 + 23] ∧ win0_8.index t = ![t.val / 4, t.val % 4 + 27]
    ∧ win0_9.index t = ![t.val / 4, t.val % 4] :=
  (by decide +kernel : ∀ t : Fin grid0.N, _)

/-- What a grid point stores at an index of its tile is the reference at the index of the array it belongs to. -/
theorem point (c : Dev nD) (t : Fin cfg0.N) (y) :
    k0_pay1 (iblk m c 6 t) (iblk m c 0 t) (iblk m c 3 t) (iblk m c 7 t) (iblk m c 1 t) (iblk m c 4 t)
        (iblk m c 8 t) (iblk m c 2 t) (iblk m c 5 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  pointwise [k0_pay1, REF, GATES, PROJ, Ideal.logistic]
  blk_point [iblk, V, idx t]

/-- The result array after the run. -/
theorem final (c : Dev nD) : (dats m 0 c).arrAt 9 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  exact point m c t y

end Cert.MergeIdeal.Tiles

namespace Cert.Proof

/-- The tiled merge and the plain one end with the same result. -/
theorem merge_algebraic : Cert.algebraic_MergeIdeal_MergeRefIdeal := by
  pair_intro
  · run_from Cert.MergeIdeal.Value.run_blocks m g
  · run_from Cert.MergeRefIdeal.Value.run m' g'
    exact (Cert.MergeIdeal.Tiles.final m c).symm

end Cert.Proof
-- ==== Proof.OutProjValue.lean ====
/- The result of the output projection: `x + merged · w`, tile by tile, is that formula over the whole arrays. -/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Tiles

open Cert.OutProjIdeal Cert.OutProjIdeal.Gen

variable (m : (ℓ : Loc nD τ sig) → Buf (Elt Ideal) ℓ)

/-- The reference's result as a function of the three arguments. -/
abbrev REF (y : FVec Ideal Cert.OutProjRefIdeal.S8320x2048 .bf16) (w : FVec Ideal Cert.OutProjRefIdeal.S2048x2048 .f32)
    (x : FVec Ideal Cert.OutProjRefIdeal.S8320x2048 .f32) : FVec Ideal Cert.OutProjRefIdeal.S8320x2048 .f32 :=
  addf x (Host.dotGeneral Cert.OutProjRefIdeal.dot_S8320x2048_S2048x2048_S8320x2048_1_0_0_1_n_n none
    (extf .f32 y Cert.OutProjRefIdeal.Gen.bitsLt_bf16_f32) w)

/-- Which block each window shows at each grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What a grid point stores at an index of its tile is the reference at the index of the array it belongs to. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

end Cert.OutProjIdeal.Tiles

namespace Cert.Proof

/-- The tiled output projection and the plain one end with the same result. -/
theorem outProj_algebraic : Cert.algebraic_OutProjIdeal_OutProjRefIdeal := by
  pair_intro
  · run_from Cert.OutProjIdeal.Value.run_blocks m g
  · run_from Cert.OutProjRefIdeal.Value.run m' g'
    exact (Cert.OutProjIdeal.Tiles.final m c).symm

end Cert.Proof
-- ==== Proof.FinalPromptValue.lean ====
/- The last norm of the prompt rows: chunk by chunk it is the norm of those rows, laid out sequence by sequence. -/
module

public import proofs.«01_k».proof.Defs
public import proofs.«01_k».proof.Proof.Gen.FinalPromptIdeal.Value
public import proofs.«01_k».proof.Proof.Gen.FinalPromptRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalPromptIdeal.Tiles

open Cert.FinalPromptIdeal Cert.FinalPromptIdeal.Gen

variable (m : (ℓ : Loc nD τ sig) → Buf (Elt Ideal) ℓ)

/-- The rows of the hidden state that belong to the result. -/
abbrev ROWS (x : FVec Ideal Cert.FinalPromptRefIdeal.S8320x2048 .f32) : FVec Ideal Cert.FinalPromptRefIdeal.S4x32x64x2048 .f32 :=
  transpose Cert.FinalPromptRefIdeal.S4x32x64x2048 [1, 0, 2, 3] (shapeCast _ (extractStridedSlice Cert.FinalPromptRefIdeal.S8192x2048 ![0, 0] x Cert.FinalPromptRefIdeal.Gen.slices_S8320x2048_S8192x2048_0_0)
    Cert.FinalPromptRefIdeal.Gen.shapeCasts_S8192x2048_S32x4x64x2048) Cert.FinalPromptRefIdeal.Gen.transposes_S32x4x64x2048_S4x32x64x2048_1_0_2_3

/-- The reference's result: the root-mean-square norm of the rows, with a weight for each column. -/
abbrev REF (x : FVec Ideal Cert.FinalPromptRefIdeal.S8320x2048 .f32) (w : FVec Ideal Cert.FinalPromptRefIdeal.S2048 .f32) : FVec Ideal Cert.FinalPromptRefIdeal.S4x32x64x2048 .f32 :=
  mulf (mulf (ROWS x) (broadcastInDim Cert.FinalPromptRefIdeal.S4x32x64x2048 ![0, 1, 2, 3] Cert.FinalPromptRefIdeal.Gen.bcast_S4x32x64x1_S4x32x64x2048_0_1_2_3
      (Host.rsqrt (addf (Host.divf (broadcastInDim Cert.FinalPromptRefIdeal.S4x32x64x1 ![0, 1, 2] Cert.FinalPromptRefIdeal.Gen.bcast_S4x32x64_S4x32x64x1_0_1_2
          (Host.reduceAdd (mulf (ROWS x) (ROWS x)) (constant Cert.FinalPromptRefIdeal.S_ .f32 0x00000000#32) Cert.FinalPromptRefIdeal.Gen.reducesTo_S4x32x64x2048_S4x32x64_d3 Cert.FinalPromptRefIdeal.Gen.h_S_))
          (broadcastInDim Cert.FinalPromptRefIdeal.S4x32x64x1 ![] Cert.FinalPromptRefIdeal.Gen.bcast_S_S4x32x64x1 (constant Cert.FinalPromptRefIdeal.S_ .f32 0x45000000#32)))
        (broadcastInDim Cert.FinalPromptRefIdeal.S4x32x64x1 ![] Cert.FinalPromptRefIdeal.Gen.bcast_S_S4x32x64x1 (constant Cert.FinalPromptRefIdeal.S_ .f32 0x358637BD#32))))))
    (broadcastInDim Cert.FinalPromptRefIdeal.S4x32x64x2048 ![0, 1, 2, 3] Cert.FinalPromptRefIdeal.Gen.bcast_S1x1x1x2048_S4x32x64x2048_0_1_2_3
      (broadcastInDim Cert.FinalPromptRefIdeal.S1x1x1x2048 ![3] Cert.FinalPromptRefIdeal.Gen.bcast_S2048_S1x1x1x2048_3 w))

/-- Which block each window shows at each grid point. -/
theorem idx : ∀ t : Fin cfg0.N, win0_0.index t = ![(t.val / 4) * 4 + (t.val % 4), 0] ∧ win0_1.index t = ![0, 0]
    ∧ win0_2.index t = ![t.val % 4, t.val / 4, 0, 0] :=
  (by decide +kernel : ∀ t : Fin grid0.N, _)

/-- What a grid point stores at an index of its tile is the reference at the index of the array it belongs to. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.FinalPromptIdeal.Tiles

namespace Cert.Proof

/-- The tiled last norm of the prompt rows and the plain one end with the same result. -/
theorem finalPrompt_algebraic : Cert.algebraic_FinalPromptIdeal_FinalPromptRefIdeal := by
  pair_intro
  · run_from Cert.FinalPromptIdeal.Value.run_blocks m g
  · run_from Cert.FinalPromptRefIdeal.Value.run m' g'
    exact (Cert.FinalPromptIdeal.Tiles.final m c).symm

end Cert.Proof
-- ==== Proof.FinalSampleValue.lean ====
/- The last norm of the sample rows. -/
module

public import proofs.«01_k».proof.Defs
public import proofs.«01_k».proof.Proof.Gen.FinalSampleIdeal.Value
public import proofs.«01_k».proof.Proof.Gen.FinalSampleRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalSampleIdeal.Tiles

open Cert.FinalSampleIdeal Cert.FinalSampleIdeal.Gen

variable (m : (ℓ : Loc nD τ sig) → Buf (Elt Ideal) ℓ)

/-- The rows of the hidden state that belong to the result. -/
abbrev ROWS (x : FVec Ideal Cert.FinalSampleRefIdeal.S8320x2048 .f32) : FVec Ideal Cert.FinalSampleRefIdeal.S128x2048 .f32 :=
  extractStridedSlice Cert.FinalSampleRefIdeal.S128x2048 ![8192, 0] x Cert.FinalSampleRefIdeal.Gen.slices_S8320x2048_S128x2048_8192_0

/-- The reference's result: the root-mean-square norm of the rows, with a weight for each column. -/
abbrev REF (x : FVec Ideal Cert.FinalSampleRefIdeal.S8320x2048 .f32) (w : FVec Ideal Cert.FinalSampleRefIdeal.S2048 .f32) : FVec Ideal Cert.FinalSampleRefIdeal.S128x2048 .f32 :=
  mulf (mulf (ROWS x) (broadcastInDim Cert.FinalSampleRefIdeal.S128x2048 ![0, 1] Cert.FinalSampleRefIdeal.Gen.bcast_S128x1_S128x2048_0_1
      (Host.rsqrt (addf (Host.divf (broadcastInDim Cert.FinalSampleRefIdeal.S128x1 ![0] Cert.FinalSampleRefIdeal.Gen.bcast_S128_S128x1_0
          (Host.reduceAdd (mulf (ROWS x) (ROWS x)) (constant Cert.FinalSampleRefIdeal.S_ .f32 0x00000000#32) Cert.FinalSampleRefIdeal.Gen.reducesTo_S128x2048_S128_d1 Cert.FinalSampleRefIdeal.Gen.h_S_))
          (broadcastInDim Cert.FinalSampleRefIdeal.S128x1 ![] Cert.FinalSampleRefIdeal.Gen.bcast_S_S128x1 (constant Cert.FinalSampleRefIdeal.S_ .f32 0x45000000#32)))
        (broadcastInDim Cert.FinalSampleRefIdeal.S128x1 ![] Cert.FinalSampleRefIdeal.Gen.bcast_S_S128x1 (constant Cert.FinalSampleRefIdeal.S_ .f32 0x358637BD#32))))))
    (broadcastInDim Cert.FinalSampleRefIdeal.S128x2048 ![0, 1] Cert.FinalSampleRefIdeal.Gen.bcast_S1x2048_S128x2048_0_1
      (broadcastInDim Cert.FinalSampleRefIdeal.S1x2048 ![1] Cert.FinalSampleRefIdeal.Gen.bcast_S2048_S1x2048_1 w))

/-- Which block each window shows at each grid point. -/
theorem idx : ∀ t : Fin cfg0.N, win0_0.index t = ![64, 0] ∧ win0_1.index t = ![0, 0] ∧ win0_2.index t = ![0, 0] :=
  (by decide +kernel : ∀ t : Fin grid0.N, _)

/-- What a grid point stores at an index of its tile is the reference at the index of the array it belongs to. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.FinalSampleIdeal.Tiles

namespace Cert.Proof

/-- The last norm of the sample rows as one tile and the plain one end with the same result. -/
theorem finalSample_algebraic : Cert.algebraic_FinalSampleIdeal_FinalSampleRefIdeal := by
  pair_intro
  · run_from Cert.FinalSampleIdeal.Value.run_blocks m g
  · run_from Cert.FinalSampleRefIdeal.Value.run m' g'
    exact (Cert.FinalSampleIdeal.Tiles.final m c).symm

end Cert.Proof
-- ==== Proof.GlaReals.lean ====
/- The GLA mixer's gates as functions of real numbers. -/
module

public import proofs.«01_k».proof.Proof.Reals

@[expose] public section

noncomputable section

open Idealize.ShloMosaic

namespace Cert.Reals

/-- The logarithm of the logistic function, in the form that stays finite. -/
def lsg (x : ℝ) : ℝ := min x 0 - Real.log (1 + Real.exp (-|x|))

theorem abs_real (x : ℝ) : max (x : EReal) (-(x : EReal)) = ((|x| : ℝ) : EReal) := by
  rw [← EReal.coe_neg, max_real]; rfl

theorem log1p_exp (x : ℝ) : Ideal.log1p (Ideal.exp (x : EReal)) = ((Real.log (1 + Real.exp x) : ℝ) : EReal) := by
  unfold Ideal.log1p
  rw [Ideal.exp_coe, ← EReal.coe_one, ← EReal.coe_add, log_real (by positivity)]

theorem sixteen_bits : Ideal.ofBits .f32 0x41800000#32 = ((16 : ℝ) : EReal) := by
  simp [Ideal.ofBits, Ideal.ieee, -EReal.coe_mul]
  norm_num

/-- The logarithm of a channel's decay: the gate's logarithm, taken down sixteenfold. -/
def lga (x : ℝ) : ℝ := lsg x / 16

/-- The gate's logarithm as a difference of a minimum and a logarithm. -/
theorem lga_min (x : ℝ) :
    Ideal.div (min (x : EReal) 0 - Ideal.log1p (Ideal.exp (0 - max (x : EReal) (-(x : EReal))))) (Ideal.ofBits .f32 0x41800000#32) = (lga x : EReal) := by
  have hmin : min (x : EReal) 0 = ((min x 0 : ℝ) : EReal) := (EReal.coe_strictMono.monotone.map_min).symm
  rw [abs_real, zero_sub, ← EReal.coe_neg, log1p_exp, hmin, ← EReal.coe_sub, sixteen_bits, div_real (by norm_num)]
  rfl

/-- The gate's logarithm as a negated sum of a maximum and a logarithm. -/
theorem lga_max (x : ℝ) :
    Ideal.div (-(max (-(x : EReal)) 0 + Ideal.log1p (Ideal.exp (-(max (-(x : EReal)) (-(-(x : EReal)))))))) (Ideal.ofBits .f32 0x41800000#32) = (lga x : EReal) := by
  have hmax : max (-(x : EReal)) 0 = ((max (-x) 0 : ℝ) : EReal) := by
    rw [← EReal.coe_neg]; exact (EReal.coe_strictMono.monotone.map_max).symm
  rw [← EReal.coe_neg, abs_real, ← EReal.coe_neg, log1p_exp, EReal.coe_neg, hmax, ← EReal.coe_add, ← EReal.coe_neg, sixteen_bits, div_real (by norm_num)]
  unfold lga lsg
  rw [abs_neg]
  congr 2
  rw [show (min x 0 : ℝ) = -(max (-x) 0) by rw [← neg_zero, ← min_neg_neg]; simp]
  ring

/-- A head's output channel of the wider mixer: the root-mean-square norm over the head's 256 channels with its weight, times the gated unit. -/
def wideGate (o : Fin 256 → ℝ) (w g : EReal) (d : Fin 256) : EReal :=
  (o d : EReal) * Ideal.rsqrt (Ideal.div (∑ x, (o x : EReal) * (o x : EReal)) (Ideal.ofBits .f32 0x43800000#32) + Ideal.ofBits .f32 0x358637BD#32)
    * w * (g * Ideal.logistic g)

end Cert.Reals

end
-- ==== Proof.GlaStepRefParts.lean ====
/- The reference of the GLA step, part by part, as functions of real numbers. -/
module

public import proofs.«01_k».proof.Defs
public import proofs.«01_k».proof.Proof.Gen.GlaStepRefIdeal.Run
public import proofs.«01_k».proof.Proof.GlaReals

@[expose] public section

set_option maxRecDepth 16384

noncomputable section

open Idealize.ShloMosaic Idealize.ShloMosaic.TcCoe Idealize.SL.Sem

namespace Cert.GlaStepRefIdeal.Parts

open Cert.GlaStepRefIdeal Cert.GlaStepRefIdeal.Gen Cert.Reals

/-- The decay's argument, negated. -/
def minus (x0 : FVec Ideal S8320x16384 .f32) (x2 : FVec Ideal S16x512 .f32) (x3 : FVec Ideal S512 .f32) : FVec Ideal S128x512 .f32 :=
  Host.negf (addf (Host.dotGeneral dot_S128x16_S16x512_S128x512_1_0_0_1_n_n none (extractStridedSlice S128x16 ![0, 15888]
    (extractStridedSlice S128x16384 ![8192, 0] x0 slices_S8320x16384_S128x16384_8192_0) slices_S128x16384_S128x16_0_15888) x2)
    (broadcastInDim S128x512 ![0, 1] bcast_S1x512_S128x512_0_1 (broadcastInDim S1x512 ![1] bcast_S512_S1x512_1 x3)))

/-- The same with zero taken off. -/
def shifted (x0 : FVec Ideal S8320x16384 .f32) (x2 : FVec Ideal S16x512 .f32) (x3 : FVec Ideal S512 .f32) : FVec Ideal S128x512 .f32 :=
  subf (minus x0 x2 x3) (broadcastInDim S128x512 ![] bcast_S_S128x512 (constant S_ .f32 0x00000000#32))

/-- The logarithm of the decay. -/
def logA (x0 : FVec Ideal S8320x16384 .f32) (x2 : FVec Ideal S16x512 .f32) (x3 : FVec Ideal S512 .f32) : FVec Ideal S128x4x128 .f32 :=
  shapeCast _ (Host.divf (Host.negf (select (cmpf .une (shifted x0 x2 x3) (shifted x0 x2 x3)) (addf (minus x0 x2 x3) (broadcastInDim
    S128x512 ![] bcast_S_S128x512 (constant S_ .f32 0x00000000#32))) (addf (maximumf (minus x0 x2 x3) (broadcastInDim S128x512 ![]
    bcast_S_S128x512 (constant S_ .f32 0x00000000#32))) (Host.log1p (Host.exp (Host.negf (Host.absf (shifted x0 x2 x3))))))))
    (broadcastInDim S128x512 ![] bcast_S_S128x512 (constant S_ .f32 0x41800000#32))) shapeCasts_S128x512_S128x4x128

/-- The decay. -/
def decay (x0 : FVec Ideal S8320x16384 .f32) (x2 : FVec Ideal S16x512 .f32) (x3 : FVec Ideal S512 .f32) : FVec Ideal S128x4x128 .f32 :=
  Host.exp (logA x0 x2 x3)

/-- The key. -/
def key (x0 : FVec Ideal S8320x16384 .f32) : FVec Ideal S128x4x128 .f32 :=
  shapeCast _ (extractStridedSlice S128x512 ![0, 7168] (extractStridedSlice S128x16384 ![8192, 0] x0 slices_S8320x16384_S128x16384_8192_0)
    slices_S128x16384_S128x512_0_7168) shapeCasts_S128x512_S128x4x128

/-- The decay of a row from itself. -/
def own (x0 : FVec Ideal S8320x16384 .f32) (x2 : FVec Ideal S16x512 .f32) (x3 : FVec Ideal S512 .f32) : FVec Ideal S128x4x128 .f32 :=
  Host.exp (subf (logA x0 x2 x3) (logA x0 x2 x3))

/-- The value. -/
def value (x0 : FVec Ideal S8320x16384 .f32) : FVec Ideal S128x4x256 .f32 :=
  shapeCast _ (extractStridedSlice S128x1024 ![0, 7680] (extractStridedSlice S128x16384 ![8192, 0] x0 slices_S8320x16384_S128x16384_8192_0)
    slices_S128x16384_S128x1024_0_7680) shapeCasts_S128x1024_S128x4x256

/-- The query. -/
def query (x0 : FVec Ideal S8320x16384 .f32) : FVec Ideal S128x4x128 .f32 :=
  mulf (shapeCast _ (extractStridedSlice S128x512 ![0, 6656] (extractStridedSlice S128x16384 ![8192, 0] x0
    slices_S8320x16384_S128x16384_8192_0) slices_S128x16384_S128x512_0_6656) shapeCasts_S128x512_S128x4x128) (broadcastInDim S128x4x128 ![]
    bcast_S_S128x4x128 (constant S_ .f32 0x3DB504F3#32))

/-- The output of the recurrence, before its norm. -/
def mixed (x0 : FVec Ideal S8320x16384 .f32) (x1 : FVec Ideal S128x4x128x256 .f32) (x2 : FVec Ideal S16x512 .f32) (x3 : FVec Ideal S512 .f32) : FVec Ideal S128x4x256 .f32 :=
  addf (mulf (broadcastInDim S128x4x256 ![0, 1, 2] bcast_S128x4x1_S128x4x256_0_1_2 (broadcastInDim S128x4x1 ![0, 1]
    bcast_S128x4_S128x4x1_0_1 (Host.reduceAdd (mulf (mulf (query x0) (own x0 x2 x3)) (key x0)) (constant S_ .f32 0x00000000#32)
    reducesTo_S128x4x128_S128x4_d2 h_S_))) (value x0)) (Host.dotGeneral dot_S128x4x128_S128x4x128x256_S128x4x256_2_2_n_3_01_01 none (mulf
    (query x0) (decay x0 x2 x3)) x1)

/-- The reference's new state. -/
def STATE (x0 : FVec Ideal S8320x16384 .f32) (x1 : FVec Ideal S128x4x128x256 .f32) (x2 : FVec Ideal S16x512 .f32) (x3 : FVec Ideal S512 .f32) : FVec Ideal S128x4x128x256 .f32 :=
  addf (mulf (broadcastInDim S128x4x128x256 ![0, 1, 2, 3] bcast_S128x4x128x1_S128x4x128x256_0_1_2_3 (broadcastInDim S128x4x128x1 ![0, 1, 2]
    bcast_S128x4x128_S128x4x128x1_0_1_2 (decay x0 x2 x3))) x1) (mulf (broadcastInDim S128x4x128x256 ![0, 1, 2, 3]
    bcast_S128x4x128x1_S128x4x128x256_0_1_2_3 (broadcastInDim S128x4x128x1 ![0, 1, 2] bcast_S128x4x128_S128x4x128x1_0_1_2 (mulf (key x0)
    (own x0 x2 x3)))) (broadcastInDim S128x4x128x256 ![0, 1, 2, 3] bcast_S128x4x1x256_S128x4x128x256_0_1_2_3 (broadcastInDim S128x4x1x256
    ![0, 1, 3] bcast_S128x4x256_S128x4x1x256_0_1_3 (value x0))))

/-- The reference's output rows. -/
def OUT (x0 : FVec Ideal S8320x16384 .f32) (x1 : FVec Ideal S128x4x128x256 .f32) (x2 : FVec Ideal S16x512 .f32) (x3 : FVec Ideal S512 .f32) (x4 : FVec Ideal S256 .f32) : FVec Ideal S128x1024 .bf16 :=
  truncf .bf16 (shapeCast _ (mulf (mulf (mulf (mixed x0 x1 x2 x3) (broadcastInDim S128x4x256 ![0, 1, 2] bcast_S128x4x1_S128x4x256_0_1_2
    (Host.rsqrt (addf (Host.divf (broadcastInDim S128x4x1 ![0, 1] bcast_S128x4_S128x4x1_0_1 (Host.reduceAdd (mulf (mixed x0 x1 x2 x3) (mixed
    x0 x1 x2 x3)) (constant S_ .f32 0x00000000#32) reducesTo_S128x4x256_S128x4_d2 h_S_)) (broadcastInDim S128x4x1 ![] bcast_S_S128x4x1
    (constant S_ .f32 0x43800000#32))) (broadcastInDim S128x4x1 ![] bcast_S_S128x4x1 (constant S_ .f32 0x358637BD#32)))))) (broadcastInDim
    S128x4x256 ![0, 1, 2] bcast_S1x1x256_S128x4x256_0_1_2 (broadcastInDim S1x1x256 ![2] bcast_S256_S1x1x256_2 x4))) (shapeCast _ (mulf
    (extractStridedSlice S128x1024 ![0, 8704] (extractStridedSlice S128x16384 ![8192, 0] x0 slices_S8320x16384_S128x16384_8192_0)
    slices_S128x16384_S128x1024_0_8704) (Host.divf (broadcastInDim S128x1024 ![] bcast_S_S128x1024 (constant S_ .f32 0x3F800000#32)) (addf
    (broadcastInDim S128x1024 ![] bcast_S_S128x1024 (constant S_ .f32 0x3F800000#32)) (Host.exp (Host.negf (extractStridedSlice S128x1024
    ![0, 8704] (extractStridedSlice S128x16384 ![8192, 0] x0 slices_S8320x16384_S128x16384_8192_0) slices_S128x16384_S128x1024_0_8704))))))
    shapeCasts_S128x1024_S128x4x256)) shapeCasts_S128x4x256_S128x1024) bitsLt_bf16_f32

/-- A column of the sample rows' query, key and value, in a head. -/
def qOf (P : Fin 8320 → Fin 16384 → ℝ) (i : Fin 128) (h : Fin 4) (d : Fin 128) : ℝ :=
  P ⟨8192 + i.val, by omega⟩ ⟨6656 + (h.val * 128 + d.val), by omega⟩
def kOf (P : Fin 8320 → Fin 16384 → ℝ) (i : Fin 128) (h : Fin 4) (d : Fin 128) : ℝ :=
  P ⟨8192 + i.val, by omega⟩ ⟨7168 + (h.val * 128 + d.val), by omega⟩
def vOf (P : Fin 8320 → Fin 16384 → ℝ) (i : Fin 128) (h : Fin 4) (d : Fin 256) : ℝ :=
  P ⟨8192 + i.val, by omega⟩ ⟨7680 + (h.val * 256 + d.val), by omega⟩

/-- The decay's argument: the sixteen gate columns times the decay weight, plus the bias. -/
def argOf (P : Fin 8320 → Fin 16384 → ℝ) (W : Fin 16 → Fin 512 → ℝ) (B : Fin 512 → ℝ) (i : Fin 128) (h : Fin 4) (d : Fin 128) : ℝ :=
  ∑ x : Fin 16, P ⟨8192 + i.val, by omega⟩ ⟨15888 + x.val, by omega⟩ * W x ⟨h.val * 128 + d.val, by omega⟩ + B ⟨h.val * 128 + d.val, by omega⟩

/-- The state after the step. -/
def nextOf (P : Fin 8320 → Fin 16384 → ℝ) (S : Fin 128 → Fin 4 → Fin 128 → Fin 256 → ℝ) (W : Fin 16 → Fin 512 → ℝ) (B : Fin 512 → ℝ)
    (i : Fin 128) (h : Fin 4) (k : Fin 128) (d : Fin 256) : ℝ :=
  Real.exp (lga (argOf P W B i h k)) * S i h k d + kOf P i h k * vOf P i h d

/-- The query applied to the state after the step. -/
def mixedOf (P : Fin 8320 → Fin 16384 → ℝ) (S : Fin 128 → Fin 4 → Fin 128 → Fin 256 → ℝ) (W : Fin 16 → Fin 512 → ℝ) (B : Fin 512 → ℝ)
    (i : Fin 128) (h : Fin 4) (d : Fin 256) : ℝ :=
  ∑ k, qOf P i h k * qscale * nextOf P S W B i h k d

variable (x0 : FVec Ideal S8320x16384 .f32) (x1 : FVec Ideal S128x4x128x256 .f32) (x2 : FVec Ideal S16x512 .f32) (x3 : FVec Ideal S512 .f32)
  (x4 : FVec Ideal S256 .f32)
  (P : Fin 8320 → Fin 16384 → ℝ) (S : Fin 128 → Fin 4 → Fin 128 → Fin 256 → ℝ) (W : Fin 16 → Fin 512 → ℝ) (B : Fin 512 → ℝ)
  (b0 : ∀ r j, x0 (ix2 r j) = (P r j : EReal)) (b1 : ∀ i h k d, x1 (ix4 i h k d) = (S i h k d : EReal))
  (b2 : ∀ a j, x2 (ix2 a j) = (W a j : EReal)) (b3 : ∀ j, x3 (ix1 j) = (B j : EReal))

include b0 b2 b3 in
theorem logA_real (i : Fin 128) (h : Fin 4) (d : Fin 128) : logA x0 x2 x3 (ix3 i h d) = (lga (argOf P W B i h d) : EReal) := by
  pointwise [logA, shifted, minus]
  simp only [b0, b2, b3, ← EReal.coe_mul, sum_real, ← EReal.coe_add]
  rw [if_neg (fun h => h rfl)]
  exact lga_max _

include b0 in
theorem key_real (i : Fin 128) (h : Fin 4) (d : Fin 128) : key x0 (ix3 i h d) = (kOf P i h d : EReal) := by
  pointwise [key]
  simp only [b0]
  rfl

include b0 in
theorem query_real (i : Fin 128) (h : Fin 4) (d : Fin 128) : query x0 (ix3 i h d) = ((qOf P i h d * qscale : ℝ) : EReal) := by
  pointwise [query]
  simp only [b0, qscale_bits]
  push_cast
  rfl

include b0 in
theorem value_real (i : Fin 128) (h : Fin 4) (d : Fin 256) : value x0 (ix3 i h d) = (vOf P i h d : EReal) := by
  pointwise [value]
  simp only [b0]
  rfl

include b0 b1 b2 b3 in
/-- The reference's new state. -/
theorem state_real (i : Fin 128) (h : Fin 4) (k : Fin 128) (d : Fin 256) :
    STATE x0 x1 x2 x3 (ix4 i h k d) = (nextOf P S W B i h k d : EReal) := by
  pointwise [STATE, decay, own]
  simp only [logA_real x0 x2 x3 P W B b0 b2 b3, key_real x0 P b0, value_real x0 P b0, b1, Ideal.exp_coe, ← EReal.coe_sub, sub_self,
    Real.exp_zero, ← EReal.coe_mul, ← EReal.coe_add, mul_one]
  rfl

include b0 b1 b2 b3 in
/-- The reference's output before the norm: the part from the row itself and the part from the old state make the query
    applied to the new state. -/
theorem mixed_real (i : Fin 128) (h : Fin 4) (d : Fin 256) : mixed x0 x1 x2 x3 (ix3 i h d) = (mixedOf P S W B i h d : EReal) := by
  pointwise [mixed, decay, own]
  simp only [logA_real x0 x2 x3 P W B b0 b2 b3, key_real x0 P b0, value_real x0 P b0, query_real x0 P b0, b1, Ideal.exp_coe,
    ← EReal.coe_sub, sub_self, Real.exp_zero, ← EReal.coe_mul, sum_real, ← EReal.coe_add, mul_one]
  congr 1
  unfold mixedOf nextOf
  rw [Finset.sum_mul, ← Finset.sum_add_distrib]
  refine Finset.sum_congr rfl fun k _ => ?_
  ring

include b0 b1 b2 b3 in
/-- The reference's output rows. -/
theorem out_real (i : Fin 128) (j : Fin 1024) :
    OUT x0 x1 x2 x3 x4 (ix2 i j)
      = wideGate (fun d => mixedOf P S W B i ⟨j.val / 256, by omega⟩ d) (x4 (ix1 ⟨j.val % 256, Nat.mod_lt _ (by decide)⟩))
          (x0 (ix2 ⟨8192 + i.val, by omega⟩ ⟨8704 + j.val, by omega⟩)) ⟨j.val % 256, Nat.mod_lt _ (by decide)⟩ := by
  pointwise [OUT]
  simp only [mixed_real x0 x1 x2 x3 P S W B b0 b1 b2 b3]
  rfl

theorem out_eq (m : (ℓ : Loc nD τ sig) → Buf (Elt Ideal) ℓ) (c : Dev nD) :
    Value.res_main_v61 m c = OUT (m ((c : Thread nD τ).loc main_arg0)) (m ((c : Thread nD τ).loc main_arg1)) (m ((c : Thread nD τ).loc main_arg2)) (m ((c : Thread nD τ).loc main_arg3)) (m ((c : Thread nD τ).loc main_arg4)) := by
  unfold Value.res_main_v61 OUT mixed query value own key decay logA shifted minus
  rfl

theorem state_eq (m : (ℓ : Loc nD τ sig) → Buf (Elt Ideal) ℓ) (c : Dev nD) :
    Value.res_main_v43 m c = STATE (m ((c : Thread nD τ).loc main_arg0)) (m ((c : Thread nD τ).loc main_arg1)) (m ((c : Thread nD τ).loc main_arg2)) (m ((c : Thread nD τ).loc main_arg3)) := by
  unfold Value.res_main_v43 STATE value own key decay logA shifted minus
  rfl

end Cert.GlaStepRefIdeal.Parts

end
-- ==== Proof.GlaGates.lean ====
/- The gates, the new state and the output of the GLA step on one tile of sample rows, as functions of real numbers. -/
module

public import proofs.«01_k».proof.Defs
public import proofs.«01_k».proof.Proof.Gen.GlaStepIdeal.Value
public import proofs.«01_k».proof.Proof.GlaReals

@[expose] public section

set_option maxRecDepth 16384

noncomputable section

open Idealize.ShloMosaic Idealize.ShloMosaic.TcCoe Idealize.SL.Sem

namespace Cert.GlaStepIdeal.Gates

open Cert.GlaStepIdeal Cert.GlaStepIdeal.Gen Cert.Reals

theorem query (v : FVec Ideal S16x128 .f32) (z : Fin 16 → Fin 128 → ℝ) (h : ∀ i d, v (ix2 i d) = (z i d : EReal)) (i : Fin 16) (d : Fin 128) :
    k0_pay3 (F := Ideal) v (ix2 i d) = ((z i d * qscale : ℝ) : EReal) := by
  pointwise [k0_pay3]
  rw [h, qscale_bits]
  push_cast
  rfl

theorem key (v : FVec Ideal S16x128 .f32) (z : Fin 16 → Fin 128 → ℝ) (h : ∀ i d, v (ix2 i d) = (z i d : EReal)) (d j : Fin 128)
    (i : Fin 16) (hj : j.val = i.val) : k0_pay6 (F := Ideal) v (ix2 d j) = (z i d : EReal) := by
  pointwise [k0_pay6]
  have hji : (⟨j.val, hj ▸ i.isLt⟩ : Fin 16) = i := Fin.ext hj
  rw [dif_pos (hj ▸ i.isLt), hji, h]

/-- The decay's argument: the row's gate columns times the decay weight, plus the bias. -/
def arg (A : Fin 16 → Fin 128 → ℝ) (W : Fin 128 → Fin 128 → ℝ) (B : Fin 128 → ℝ) (i : Fin 16) (d : Fin 128) : ℝ := ∑ x, A i x * W x d + B d

theorem forget (v : FVec Ideal S16x128 .f32) (w : FVec Ideal S128x128 .f32) (b : FVec Ideal S1x128 .f32) (A : Fin 16 → Fin 128 → ℝ)
    (W : Fin 128 → Fin 128 → ℝ) (B : Fin 128 → ℝ) (ha : ∀ i d, v (ix2 i d) = (A i d : EReal)) (hw : ∀ i d, w (ix2 i d) = (W i d : EReal))
    (hb : ∀ d, b (ix2 0 d) = (B d : EReal)) (d j : Fin 128) (i : Fin 16) (hj : j.val = i.val) :
    k0_pay5 (F := Ideal) (k0_pay4 (F := Ideal) v w b) (ix2 d j) = (Real.exp (lga (arg A W B i d)) : EReal) := by
  pointwise [k0_pay5, k0_pay4]
  have hji : (⟨j.val, hj ▸ i.isLt⟩ : Fin 16) = i := Fin.ext hj
  rw [dif_pos (hj ▸ i.isLt), hji]
  simp only [ha, hw, hb, ← EReal.coe_sub, sub_self, ← EReal.coe_mul, mul_zero, zero_mul, sum_real, Finset.sum_const_zero, ← EReal.coe_add, add_zero]
  rw [show ∑ x, A i x * W x d + B d = arg A W B i d from rfl]
  exact (congrArg Ideal.exp (lga_min _)).trans (Ideal.exp_coe _)

/-- Reading a whole block gives the block. -/
theorem ld0 (v : Vec Ideal S16x128 .f32) : View.ld v r0_0 = v := by
  funext y
  pointwise [r0_0]

theorem ld1 (v : Vec Ideal S16x256 .f32) : View.ld v r0_1 = v := by
  funext y
  pointwise [r0_1]

theorem ld2 (v : Vec Ideal S128x128 .f32) : View.ld v r0_2 = v := by
  funext y
  pointwise [r0_2]

theorem ld3 (v : Vec Ideal S1x128 .f32) : View.ld v r0_3 = v := by
  funext y
  pointwise [r0_3]
  refine congrArg v (funext fun a => ?_)
  match a with
  | 0 => exact Subsingleton.elim (α := Fin 1) _ _
  | 1 => rfl

/-- Sixteen selections by the row number pick the row's own value. -/
theorem pick (f : Fin 16 → EReal) (z : EReal) (i : Fin 16) :
    Scalar.select (IntOp.cmpi .eq (BitVec.ofNat 32 i.val) 15#32) (f 15) (Scalar.select (IntOp.cmpi .eq (BitVec.ofNat 32 i.val) 14#32)
    (f 14) (Scalar.select (IntOp.cmpi .eq (BitVec.ofNat 32 i.val) 13#32) (f 13) (Scalar.select (IntOp.cmpi .eq (BitVec.ofNat 32 i.val)
    12#32) (f 12) (Scalar.select (IntOp.cmpi .eq (BitVec.ofNat 32 i.val) 11#32) (f 11) (Scalar.select (IntOp.cmpi .eq (BitVec.ofNat 32
    i.val) 10#32) (f 10) (Scalar.select (IntOp.cmpi .eq (BitVec.ofNat 32 i.val) 9#32) (f 9) (Scalar.select (IntOp.cmpi .eq
    (BitVec.ofNat 32 i.val) 8#32) (f 8) (Scalar.select (IntOp.cmpi .eq (BitVec.ofNat 32 i.val) 7#32) (f 7) (Scalar.select (IntOp.cmpi
    .eq (BitVec.ofNat 32 i.val) 6#32) (f 6) (Scalar.select (IntOp.cmpi .eq (BitVec.ofNat 32 i.val) 5#32) (f 5) (Scalar.select
    (IntOp.cmpi .eq (BitVec.ofNat 32 i.val) 4#32) (f 4) (Scalar.select (IntOp.cmpi .eq (BitVec.ofNat 32 i.val) 3#32) (f 3)
    (Scalar.select (IntOp.cmpi .eq (BitVec.ofNat 32 i.val) 2#32) (f 2) (Scalar.select (IntOp.cmpi .eq (BitVec.ofNat 32 i.val) 1#32) (f
    1) (Scalar.select (IntOp.cmpi .eq (BitVec.ofNat 32 i.val) 0#32) (f 0) (z)))))))))))))))) = f i := by
  fin_cases i <;> rfl

variable (x0 x1 : Vec Ideal S16x128 .f32) (x2 : Vec Ideal S16x256 .f32) (x3 : Vec Ideal S16x128 .f32) (x4 : Vec Ideal S128x128 .f32)
  (x5 : Vec Ideal S1x128 .f32) (x6 : Vec Ideal S16x256 .f32) (x7 : Vec Ideal S1x256 .f32) (x8 : Vec Ideal S16x1x128x256 .f32)
  (Q K : Fin 16 → Fin 128 → ℝ) (V : Fin 16 → Fin 256 → ℝ) (A : Fin 16 → Fin 128 → ℝ) (W : Fin 128 → Fin 128 → ℝ) (B : Fin 128 → ℝ)
  (S : Fin 16 → Fin 128 → Fin 256 → ℝ)
  (b0 : ∀ i d, x0 (ix2 i d) = (Q i d : EReal)) (b1 : ∀ i d, x1 (ix2 i d) = (K i d : EReal)) (b2 : ∀ i d, x2 (ix2 i d) = (V i d : EReal))
  (b3 : ∀ i d, x3 (ix2 i d) = (A i d : EReal)) (b4 : ∀ i d, x4 (ix2 i d) = (W i d : EReal)) (b5 : ∀ d, x5 (ix2 0 d) = (B d : EReal))
  (b8 : ∀ i k d, x8 (ix4 i 0 k d) = (S i k d : EReal))

/-- The state after one step of the recurrence: the old state decayed channel by channel, plus the outer product of key and value. -/
def next (i : Fin 16) (k : Fin 128) (d : Fin 256) : ℝ := Real.exp (lga (arg A W B i k)) * S i k d + K i k * V i d

include b1 b2 b3 b4 b5 b8 in
set_option maxHeartbeats 1600000 in
/-- The state block a grid point stores. -/
theorem state (i : Fin 16) (k : Fin 128) (d : Fin 256) :
    out0_10 x0 x1 x2 x3 x4 x5 x6 x7 x8 (ix4 i 0 k d) = (next K V A W B S i k d : EReal) := by
  have close : ∀ (n : Fin 16) (j a : Fin 128) (b : Fin 256), j.val = n.val → n = i → a = k → b = d →
      k0_pay5 (F := Ideal) (k0_pay4 (F := Ideal) x3 x4 x5) (ix2 a j) * x8 (ix4 n 0 a b) + k0_pay6 (F := Ideal) x1 (ix2 a j) * x2 (ix2 n b)
        = (next K V A W B S i k d : EReal) := by
    rintro n j a b hj rfl rfl rfl
    rw [forget x3 x4 x5 A W B b3 b4 b5 a j n hj, key x1 K b1 a j n hj, b2, b8]
    unfold next
    push_cast
    rfl
  generalize hy : (ix4 i 0 k d : S16x1x128x256.Idx) = y
  canon_tiles x h
  all_goals
    pointwise [k0_pay1, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57,
      k0_pay58, k0_pay59, k0_pay60]
    simp only [ld1, ld0, ld2, ld3]
    subst hy
    refine close _ _ (x 2) (x 3) rfl (Fin.ext ?_) (Fin.ext h2.symm) (Fin.ext h3.symm)
    simpa using h0.symm

include b0 b1 b2 b3 b4 b5 b8 in
set_option maxHeartbeats 3200000 in
/-- The output block a grid point stores: the query applied to the new state, normed over the head's channels and gated. -/
theorem out (i : Fin 16) (d : Fin 256) :
    k0_pay2 (k0_pay52 x0 x1 x2 x3 x4 x5 x6 x7 x8) (k0_pay49 x0 x1 x2 x3 x4 x5 x6 x7 x8) (k0_pay45 x2 (k0_pay50 x0 x1 x2 x3 x4 x5 x6 x7
      x8) (k0_pay51 x0 x1 x2 x3 x4 x5 x6 x7 x8) (k0_pay52 x0 x1 x2 x3 x4 x5 x6 x7 x8) (k0_pay49 x0 x1 x2 x3 x4 x5 x6 x7 x8) (k0_pay40 x2
      (k0_pay50 x0 x1 x2 x3 x4 x5 x6 x7 x8) (k0_pay51 x0 x1 x2 x3 x4 x5 x6 x7 x8) (k0_pay52 x0 x1 x2 x3 x4 x5 x6 x7 x8) (k0_pay49 x0 x1
      x2 x3 x4 x5 x6 x7 x8) (k0_pay35 x2 (k0_pay50 x0 x1 x2 x3 x4 x5 x6 x7 x8) (k0_pay51 x0 x1 x2 x3 x4 x5 x6 x7 x8) (k0_pay52 x0 x1 x2
      x3 x4 x5 x6 x7 x8) (k0_pay49 x0 x1 x2 x3 x4 x5 x6 x7 x8) (k0_pay30 x2 (k0_pay50 x0 x1 x2 x3 x4 x5 x6 x7 x8) (k0_pay51 x0 x1 x2 x3
      x4 x5 x6 x7 x8) (k0_pay52 x0 x1 x2 x3 x4 x5 x6 x7 x8) (k0_pay49 x0 x1 x2 x3 x4 x5 x6 x7 x8) (k0_pay25 x2 (k0_pay50 x0 x1 x2 x3 x4
      x5 x6 x7 x8) (k0_pay51 x0 x1 x2 x3 x4 x5 x6 x7 x8) (k0_pay52 x0 x1 x2 x3 x4 x5 x6 x7 x8) (k0_pay49 x0 x1 x2 x3 x4 x5 x6 x7 x8)
      (k0_pay20 x2 (k0_pay50 x0 x1 x2 x3 x4 x5 x6 x7 x8) (k0_pay51 x0 x1 x2 x3 x4 x5 x6 x7 x8) (k0_pay52 x0 x1 x2 x3 x4 x5 x6 x7 x8)
      (k0_pay49 x0 x1 x2 x3 x4 x5 x6 x7 x8) (k0_pay15 x2 (k0_pay50 x0 x1 x2 x3 x4 x5 x6 x7 x8) (k0_pay51 x0 x1 x2 x3 x4 x5 x6 x7 x8)
      (k0_pay52 x0 x1 x2 x3 x4 x5 x6 x7 x8) (k0_pay49 x0 x1 x2 x3 x4 x5 x6 x7 x8) (k0_pay10 (k0_pay47 x0 x1 x2 x3 x4 x5 x6 x7 x8) x1 x2
      (k0_pay48 x0 x1 x2 x3 x4 x5 x6 x7 x8) (View.ld x8 r0_4)) (k0_pay53 x0 x1 x2 x3 x4 x5 x6 x7 x8) (View.ld x8 r0_6)) (k0_pay54 x0 x1
      x2 x3 x4 x5 x6 x7 x8) (View.ld x8 r0_8)) (k0_pay55 x0 x1 x2 x3 x4 x5 x6 x7 x8) (View.ld x8 r0_10)) (k0_pay56 x0 x1 x2 x3 x4 x5 x6
      x7 x8) (View.ld x8 r0_12)) (k0_pay57 x0 x1 x2 x3 x4 x5 x6 x7 x8) (View.ld x8 r0_14)) (k0_pay58 x0 x1 x2 x3 x4 x5 x6 x7 x8)
      (View.ld x8 r0_16)) (k0_pay59 x0 x1 x2 x3 x4 x5 x6 x7 x8) (View.ld x8 r0_18)) (k0_pay60 x0 x1 x2 x3 x4 x5 x6 x7 x8) x7 x6 (ix2 i d)
      = wideGate (fun d => ∑ k, Q i k * qscale * next K V A W B S i k d) (x7 (ix2 0 d)) (x6 (ix2 i d)) d := by
  have hsum := fun x => (pick (fun n => ∑ k, ((Q i k * qscale : ℝ) : EReal)
        * ((Real.exp (lga (arg A W B n k)) : EReal) * (S n k x : EReal) + (K n k : EReal) * (V n x : EReal))) 0 i).trans
      (show _ = ((∑ k, Q i k * qscale * next K V A W B S i k x : ℝ) : EReal) by
        rw [← sum_real]
        refine Finset.sum_congr rfl fun k _ => ?_
        unfold next
        push_cast
        rfl)
  beta_reduce at hsum
  pointwise [k0_pay1, k0_pay2, k0_pay7, k0_pay8, k0_pay9, k0_pay10, k0_pay11, k0_pay12, k0_pay13, k0_pay14, k0_pay15, k0_pay16, k0_pay17,
      k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56,
      k0_pay57, k0_pay58, k0_pay59, k0_pay60]
  simp only [ld1, ld0, ld2, ld3, query x0 Q b0, b2, b8, forget x3 x4 x5 A W B b3 b4 b5 _ 0 0 rfl, key x1 K b1 _ 0 0 rfl, forget x3 x4 x5 A W B b3 b4 b5 _ 1 1 rfl, key x1 K b1 _ 1 1 rfl,
      forget x3 x4 x5 A W B b3 b4 b5 _ 2 2 rfl, key x1 K b1 _ 2 2 rfl, forget x3 x4 x5 A W B b3 b4 b5 _ 3 3 rfl, key x1 K b1 _ 3 3 rfl,
      forget x3 x4 x5 A W B b3 b4 b5 _ 4 4 rfl, key x1 K b1 _ 4 4 rfl, forget x3 x4 x5 A W B b3 b4 b5 _ 5 5 rfl, key x1 K b1 _ 5 5 rfl,
      forget x3 x4 x5 A W B b3 b4 b5 _ 6 6 rfl, key x1 K b1 _ 6 6 rfl, forget x3 x4 x5 A W B b3 b4 b5 _ 7 7 rfl, key x1 K b1 _ 7 7 rfl,
      forget x3 x4 x5 A W B b3 b4 b5 _ 8 8 rfl, key x1 K b1 _ 8 8 rfl, forget x3 x4 x5 A W B b3 b4 b5 _ 9 9 rfl, key x1 K b1 _ 9 9 rfl,
      forget x3 x4 x5 A W B b3 b4 b5 _ 10 10 rfl, key x1 K b1 _ 10 10 rfl, forget x3 x4 x5 A W B b3 b4 b5 _ 11 11 rfl, key x1 K b1 _ 11
      11 rfl, forget x3 x4 x5 A W B b3 b4 b5 _ 12 12 rfl, key x1 K b1 _ 12 12 rfl, forget x3 x4 x5 A W B b3 b4 b5 _ 13 13 rfl, key x1 K
      b1 _ 13 13 rfl, forget x3 x4 x5 A W B b3 b4 b5 _ 14 14 rfl, key x1 K b1 _ 14 14 rfl, forget x3 x4 x5 A W B b3 b4 b5 _ 15 15 rfl,
      key x1 K b1 _ 15 15 rfl]
  simp only [hsum]
  rfl

end Cert.GlaStepIdeal.Gates

end
-- ==== Proof.GlaStepValue.lean ====
/- The results of the GLA step: tile by tile they are the recurrence's step over the whole arrays. -/
module

public import proofs.«01_k».proof.Defs
public import proofs.«01_k».proof.Proof.Gen.GlaStepIdeal.Value
public import proofs.«01_k».proof.Proof.GlaStepRefParts
public import proofs.«01_k».proof.Proof.GlaGates
public import proofs.«01_k».proof.Proof.Finite
public import proofs.«01_k».proof.Proof.Gen.Pre_finite_gla

@[expose] public section

set_option maxRecDepth 16384

noncomputable section

open Idealize.ShloMosaic Idealize.ShloMosaic.TcCoe Idealize.SL.Sem
open Idealize.ShloMosaic.Pipeline (Dat)

namespace Cert.GlaStepIdeal.Tiles

open Cert.GlaStepIdeal Cert.GlaStepIdeal.Gen Cert.Reals
open Cert.GlaStepRefIdeal.Parts (qOf kOf vOf argOf nextOf mixedOf)

variable (m : (ℓ : Loc nD τ sig) → Buf (Elt Ideal) ℓ)

/-- Which block each window shows at each grid point. -/
theorem idx : ∀ t : Fin cfg0.N, win0_0.index t = ![512 + (t.val % 8), 52 + (t.val / 8)]
    ∧ win0_1.index t = ![512 + (t.val % 8), 56 + (t.val / 8)] ∧ win0_2.index t = ![512 + (t.val % 8), 30 + (t.val / 8)]
    ∧ win0_3.index t = ![512 + (t.val % 8), 124] ∧ win0_4.index t = ![0, t.val / 8] ∧ win0_5.index t = ![0, t.val / 8]
    ∧ win0_6.index t = ![512 + (t.val % 8), 34 + (t.val / 8)]
    ∧ win0_7.index t = ![0, 0] ∧ win0_8.index t = ![t.val % 8, t.val / 8, 0, 0]
    ∧ win0_9.index t = ![t.val % 8, t.val / 8] ∧ win0_10.index t = ![t.val % 8, t.val / 8, 0, 0] :=
  (by decide +kernel : ∀ t : Fin grid0.N, _)

theorem lt32 (t : Fin cfg0.N) : t.val < 32 := t.isLt

/-- The sample row and the head of a tile's row. -/
def row (t : Fin cfg0.N) (i : Fin 16) : Fin 128 := ⟨16 * (t.val % 8) + i.val, by omega⟩
def head (t : Fin cfg0.N) : Fin 4 := ⟨t.val / 8, by have := lt32 t; omega⟩

/-- The row's 128 gate columns, of which the GLA mixer's are the sixteen from the sixteenth on. -/
def gateCols (P : Fin 8320 → Fin 16384 → ℝ) (i : Fin 128) (x : Fin 128) : ℝ := P ⟨8192 + i.val, by omega⟩ ⟨15872 + x.val, by omega⟩

/-- The decay weight of a head with zero rows above and below. -/
def padded (W : Fin 16 → Fin 512 → ℝ) (h : Fin 4) (x d : Fin 128) : ℝ :=
  if hx : 16 ≤ x.val ∧ x.val - 16 < 16 then W ⟨x.val - 16, hx.2⟩ ⟨h.val * 128 + d.val, by omega⟩ else 0

/-- The zero rows take no part in the product. -/
theorem arg_eq (P : Fin 8320 → Fin 16384 → ℝ) (W : Fin 16 → Fin 512 → ℝ) (B : Fin 512 → ℝ) (r : Fin 16 → Fin 128) (h : Fin 4) (i : Fin 16) (d : Fin 128) :
    Gates.arg (fun i x => gateCols P (r i) x) (padded W h) (fun d => B ⟨h.val * 128 + d.val, by omega⟩) i d = argOf P W B (r i) h d := by
  unfold Gates.arg argOf
  congr 1
  have e := Fin.sum_univ_add (a := 16) (b := 16 + 96) (fun x : Fin (16 + (16 + 96)) => gateCols P (r i) x * padded W h x d)
  refine Eq.trans (b := ∑ x : Fin (16 + (16 + 96)), gateCols P (r i) x * padded W h x d) rfl (e.trans ?_)
  rw [Fin.sum_univ_add]
  rw [Finset.sum_eq_zero (fun x _ => ?_), zero_add, add_eq_left.2 (Finset.sum_eq_zero (fun x _ => ?_))]
  · refine Finset.sum_congr rfl fun x _ => ?_
    unfold gateCols padded
    rw [dif_pos ⟨by simp, by simp⟩]
    congr 2
    · exact Fin.ext (by simp [← Nat.add_assoc])
    · exact Fin.ext (by simp)
  · unfold padded
    rw [dif_neg (by simp), mul_zero]
  · unfold padded
    rw [dif_neg (by simp), mul_zero]

variable (c : Dev nD) (P : Fin 8320 → Fin 16384 → ℝ) (S : Fin 128 → Fin 4 → Fin 128 → Fin 256 → ℝ) (W : Fin 16 → Fin 512 → ℝ) (B : Fin 512 → ℝ)
  (hP : ∀ r j, m ((c : Thread nD τ).loc main_arg0) (ix2 r j) = (P r j : EReal))
  (hS : ∀ i h k d, m ((c : Thread nD τ).loc main_arg1) (ix4 i h k d) = (S i h k d : EReal))
  (hW : ∀ a j, m ((c : Thread nD τ).loc main_arg2) (ix2 a j) = (W a j : EReal))
  (hB : ∀ j, m ((c : Thread nD τ).loc main_arg3) (ix1 j) = (B j : EReal))

include hP in
theorem blk0 (t : Fin cfg0.N) (i : Fin 16) (d : Fin 128) : iblk m c 0 t (ix2 i d) = (qOf P (row t i) (head t) d : EReal) := by
  refine Eq.trans ?_ (hP _ _)
  blk_point [iblk, V, idx t, row, head]

include hP in
theorem blk1 (t : Fin cfg0.N) (i : Fin 16) (d : Fin 128) : iblk m c 1 t (ix2 i d) = (kOf P (row t i) (head t) d : EReal) := by
  refine Eq.trans ?_ (hP _ _)
  blk_point [iblk, V, idx t, row, head]

include hP in
theorem blk2 (t : Fin cfg0.N) (i : Fin 16) (d : Fin 256) : iblk m c 2 t (ix2 i d) = (vOf P (row t i) (head t) d : EReal) := by
  refine Eq.trans ?_ (hP _ _)
  blk_point [iblk, V, idx t, row, head]

include hP in
theorem blk3 (t : Fin cfg0.N) (i : Fin 16) (x : Fin 128) : iblk m c 3 t (ix2 i x) = (gateCols P (row t i) x : EReal) := by
  refine Eq.trans ?_ (hP _ _)
  blk_point [iblk, V, idx t, row]

include hW in
theorem blk4 (t : Fin cfg0.N) (x d : Fin 128) : iblk m c 4 t (ix2 x d) = (padded W (head t) x d : EReal) := by
  have e : ((cfg0.win 4).blk t).view.emb (ix2 x d) = ix2 x ⟨(head t).val * 128 + d.val, by omega⟩ := by
    blk_ext [idx t, head]
  refine (show iblk m c 4 t (ix2 x d) = V m c main_v0 (((cfg0.win 4).blk t).view.emb (ix2 x d)) from rfl).trans ?_
  rw [e]
  entry_read
  pointwise
  unfold padded
  by_cases hx : 16 ≤ x.val ∧ x.val - 16 < 16
  · rw [dif_pos hx]
    refine Eq.trans (dif_pos ⟨hx, ?_⟩) (hW _ _)
    have := (head t).isLt
    have := d.isLt
    omega
  · rw [dif_neg hx]
    exact dif_neg fun h => hx h.1

include hB in
theorem blk5 (t : Fin cfg0.N) (d : Fin 128) : iblk m c 5 t (ix2 0 d) = (B ⟨(head t).val * 128 + d.val, by omega⟩ : EReal) := by
  refine Eq.trans ?_ (hB _)
  blk_point [iblk, V, idx t, head]

include hS in
theorem blk8 (t : Fin cfg0.N) (i : Fin 16) (k : Fin 128) (d : Fin 256) : iblk m c 8 t (ix4 i 0 k d) = (S (row t i) (head t) k d : EReal) := by
  refine Eq.trans ?_ (hS _ _ _ _)
  blk_point [iblk, V, idx t, row, head]

/-- A tile's step is the whole arrays' step at the tile's rows and head. -/
theorem next_eq (t : Fin cfg0.N) (i : Fin 16) (k : Fin 128) (d : Fin 256) :
    Gates.next (fun i d => kOf P (row t i) (head t) d) (fun i d => vOf P (row t i) (head t) d) (fun i x => gateCols P (row t i) x)
        (padded W (head t)) (fun d => B ⟨(head t).val * 128 + d.val, by omega⟩) (fun i k d => S (row t i) (head t) k d) i k d
      = nextOf P S W B (row t i) (head t) k d := by
  unfold Gates.next nextOf
  rw [arg_eq P W B (row t) (head t) i k]

include hP hS hW hB in
theorem point10 (t : Fin cfg0.N) (y) :
    out0_10 (iblk m c 0 t) (iblk m c 1 t) (iblk m c 2 t) (iblk m c 3 t) (iblk m c 4 t) (iblk m c 5 t) (iblk m c 6 t) (iblk m c 7 t) (iblk m c 8 t) y
      = Cert.GlaStepRefIdeal.Parts.STATE (m ((c : Thread nD τ).loc main_arg0)) (m ((c : Thread nD τ).loc main_arg1)) (m ((c : Thread nD τ).loc main_arg2)) (m ((c : Thread
        nD τ).loc main_arg3))
        (((cfg0.win 10).blk t).view.emb y) := by
  obtain ⟨i, z, k, d, rfl⟩ : ∃ (i : Fin 16) (z : Fin 1) (k : Fin 128) (d : Fin 256), y = ix4 i z k d := ⟨_, _, _, _, (ix4_eta y).symm⟩
  obtain rfl : z = 0 := Subsingleton.elim _ _
  refine (Gates.state _ _ _ _ _ _ _ _ _ _ _ _ _ _ _ (blk1 m c P hP t) (blk2 m c P hP t) (blk3 m c P hP t) (blk4 m c W hW t)
    (blk5 m c B hB t) (blk8 m c S hS t) i k d).trans ?_
  have e : ((cfg0.win 10).blk t).view.emb (ix4 i 0 k d) = ix4 (row t i) (head t) k d := by
    blk_ext [idx t, row, head]
  rw [e, Cert.GlaStepRefIdeal.Parts.state_real _ _ _ _ P S W B hP hS hW hB, next_eq P S W B t i k d]

include hP hS hW hB in
theorem point9 (t : Fin cfg0.N) (y) :
    k0_pay2 (k0_pay52 (iblk m c 0 t) (iblk m c 1 t) (iblk m c 2 t) (iblk m c 3 t) (iblk m c 4 t) (iblk m c 5 t) (iblk m c 6 t) (iblk m
        c 7 t) (iblk m c 8 t)) (k0_pay49 (iblk m c 0 t) (iblk m c 1 t) (iblk m c 2 t) (iblk m c 3 t) (iblk m c 4 t) (iblk m c 5 t) (iblk m
        c 6 t) (iblk m c 7 t) (iblk m c 8 t)) (k0_pay45 (iblk m c 2 t) (k0_pay50 (iblk m c 0 t) (iblk m c 1 t) (iblk m c 2 t) (iblk m c 3
        t) (iblk m c 4 t) (iblk m c 5 t) (iblk m c 6 t) (iblk m c 7 t) (iblk m c 8 t)) (k0_pay51 (iblk m c 0 t) (iblk m c 1 t) (iblk m c 2
        t) (iblk m c 3 t) (iblk m c 4 t) (iblk m c 5 t) (iblk m c 6 t) (iblk m c 7 t) (iblk m c 8 t)) (k0_pay52 (iblk m c 0 t) (iblk m c 1
        t) (iblk m c 2 t) (iblk m c 3 t) (iblk m c 4 t) (iblk m c 5 t) (iblk m c 6 t) (iblk m c 7 t) (iblk m c 8 t)) (k0_pay49 (iblk m c 0
        t) (iblk m c 1 t) (iblk m c 2 t) (iblk m c 3 t) (iblk m c 4 t) (iblk m c 5 t) (iblk m c 6 t) (iblk m c 7 t) (iblk m c 8 t))
        (k0_pay40 (iblk m c 2 t) (k0_pay50 (iblk m c 0 t) (iblk m c 1 t) (iblk m c 2 t) (iblk m c 3 t) (iblk m c 4 t) (iblk m c 5 t) (iblk
        m c 6 t) (iblk m c 7 t) (iblk m c 8 t)) (k0_pay51 (iblk m c 0 t) (iblk m c 1 t) (iblk m c 2 t) (iblk m c 3 t) (iblk m c 4 t) (iblk
        m c 5 t) (iblk m c 6 t) (iblk m c 7 t) (iblk m c 8 t)) (k0_pay52 (iblk m c 0 t) (iblk m c 1 t) (iblk m c 2 t) (iblk m c 3 t) (iblk
        m c 4 t) (iblk m c 5 t) (iblk m c 6 t) (iblk m c 7 t) (iblk m c 8 t)) (k0_pay49 (iblk m c 0 t) (iblk m c 1 t) (iblk m c 2 t) (iblk
        m c 3 t) (iblk m c 4 t) (iblk m c 5 t) (iblk m c 6 t) (iblk m c 7 t) (iblk m c 8 t)) (k0_pay35 (iblk m c 2 t) (k0_pay50 (iblk m c
        0 t) (iblk m c 1 t) (iblk m c 2 t) (iblk m c 3 t) (iblk m c 4 t) (iblk m c 5 t) (iblk m c 6 t) (iblk m c 7 t) (iblk m c 8 t))
        (k0_pay51 (iblk m c 0 t) (iblk m c 1 t) (iblk m c 2 t) (iblk m c 3 t) (iblk m c 4 t) (iblk m c 5 t) (iblk m c 6 t) (iblk m c 7 t)
        (iblk m c 8 t)) (k0_pay52 (iblk m c 0 t) (iblk m c 1 t) (iblk m c 2 t) (iblk m c 3 t) (iblk m c 4 t) (iblk m c 5 t) (iblk m c 6 t)
        (iblk m c 7 t) (iblk m c 8 t)) (k0_pay49 (iblk m c 0 t) (iblk m c 1 t) (iblk m c 2 t) (iblk m c 3 t) (iblk m c 4 t) (iblk m c 5 t)
        (iblk m c 6 t) (iblk m c 7 t) (iblk m c 8 t)) (k0_pay30 (iblk m c 2 t) (k0_pay50 (iblk m c 0 t) (iblk m c 1 t) (iblk m c 2 t)
        (iblk m c 3 t) (iblk m c 4 t) (iblk m c 5 t) (iblk m c 6 t) (iblk m c 7 t) (iblk m c 8 t)) (k0_pay51 (iblk m c 0 t) (iblk m c 1 t)
        (iblk m c 2 t) (iblk m c 3 t) (iblk m c 4 t) (iblk m c 5 t) (iblk m c 6 t) (iblk m c 7 t) (iblk m c 8 t)) (k0_pay52 (iblk m c 0 t)
        (iblk m c 1 t) (iblk m c 2 t) (iblk m c 3 t) (iblk m c 4 t) (iblk m c 5 t) (iblk m c 6 t) (iblk m c 7 t) (iblk m c 8 t)) (k0_pay49
        (iblk m c 0 t) (iblk m c 1 t) (iblk m c 2 t) (iblk m c 3 t) (iblk m c 4 t) (iblk m c 5 t) (iblk m c 6 t) (iblk m c 7 t) (iblk m c
        8 t)) (k0_pay25 (iblk m c 2 t) (k0_pay50 (iblk m c 0 t) (iblk m c 1 t) (iblk m c 2 t) (iblk m c 3 t) (iblk m c 4 t) (iblk m c 5 t)
        (iblk m c 6 t) (iblk m c 7 t) (iblk m c 8 t)) (k0_pay51 (iblk m c 0 t) (iblk m c 1 t) (iblk m c 2 t) (iblk m c 3 t) (iblk m c 4 t)
        (iblk m c 5 t) (iblk m c 6 t) (iblk m c 7 t) (iblk m c 8 t)) (k0_pay52 (iblk m c 0 t) (iblk m c 1 t) (iblk m c 2 t) (iblk m c 3 t)
        (iblk m c 4 t) (iblk m c 5 t) (iblk m c 6 t) (iblk m c 7 t) (iblk m c 8 t)) (k0_pay49 (iblk m c 0 t) (iblk m c 1 t) (iblk m c 2 t)
        (iblk m c 3 t) (iblk m c 4 t) (iblk m c 5 t) (iblk m c 6 t) (iblk m c 7 t) (iblk m c 8 t)) (k0_pay20 (iblk m c 2 t) (k0_pay50
        (iblk m c 0 t) (iblk m c 1 t) (iblk m c 2 t) (iblk m c 3 t) (iblk m c 4 t) (iblk m c 5 t) (iblk m c 6 t) (iblk m c 7 t) (iblk m c
        8 t)) (k0_pay51 (iblk m c 0 t) (iblk m c 1 t) (iblk m c 2 t) (iblk m c 3 t) (iblk m c 4 t) (iblk m c 5 t) (iblk m c 6 t) (iblk m c
        7 t) (iblk m c 8 t)) (k0_pay52 (iblk m c 0 t) (iblk m c 1 t) (iblk m c 2 t) (iblk m c 3 t) (iblk m c 4 t) (iblk m c 5 t) (iblk m c
        6 t) (iblk m c 7 t) (iblk m c 8 t)) (k0_pay49 (iblk m c 0 t) (iblk m c 1 t) (iblk m c 2 t) (iblk m c 3 t) (iblk m c 4 t) (iblk m c
        5 t) (iblk m c 6 t) (iblk m c 7 t) (iblk m c 8 t)) (k0_pay15 (iblk m c 2 t) (k0_pay50 (iblk m c 0 t) (iblk m c 1 t) (iblk m c 2 t)
        (iblk m c 3 t) (iblk m c 4 t) (iblk m c 5 t) (iblk m c 6 t) (iblk m c 7 t) (iblk m c 8 t)) (k0_pay51 (iblk m c 0 t) (iblk m c 1 t)
        (iblk m c 2 t) (iblk m c 3 t) (iblk m c 4 t) (iblk m c 5 t) (iblk m c 6 t) (iblk m c 7 t) (iblk m c 8 t)) (k0_pay52 (iblk m c 0 t)
        (iblk m c 1 t) (iblk m c 2 t) (iblk m c 3 t) (iblk m c 4 t) (iblk m c 5 t) (iblk m c 6 t) (iblk m c 7 t) (iblk m c 8 t)) (k0_pay49
        (iblk m c 0 t) (iblk m c 1 t) (iblk m c 2 t) (iblk m c 3 t) (iblk m c 4 t) (iblk m c 5 t) (iblk m c 6 t) (iblk m c 7 t) (iblk m c
        8 t)) (k0_pay10 (k0_pay47 (iblk m c 0 t) (iblk m c 1 t) (iblk m c 2 t) (iblk m c 3 t) (iblk m c 4 t) (iblk m c 5 t) (iblk m c 6 t)
        (iblk m c 7 t) (iblk m c 8 t)) (iblk m c 1 t) (iblk m c 2 t) (k0_pay48 (iblk m c 0 t) (iblk m c 1 t) (iblk m c 2 t) (iblk m c 3 t)
        (iblk m c 4 t) (iblk m c 5 t) (iblk m c 6 t) (iblk m c 7 t) (iblk m c 8 t)) (View.ld (iblk m c 8 t) r0_4)) (k0_pay53 (iblk m c 0
        t) (iblk m c 1 t) (iblk m c 2 t) (iblk m c 3 t) (iblk m c 4 t) (iblk m c 5 t) (iblk m c 6 t) (iblk m c 7 t) (iblk m c 8 t))
        (View.ld (iblk m c 8 t) r0_6)) (k0_pay54 (iblk m c 0 t) (iblk m c 1 t) (iblk m c 2 t) (iblk m c 3 t) (iblk m c 4 t) (iblk m c 5 t)
        (iblk m c 6 t) (iblk m c 7 t) (iblk m c 8 t)) (View.ld (iblk m c 8 t) r0_8)) (k0_pay55 (iblk m c 0 t) (iblk m c 1 t) (iblk m c 2
        t) (iblk m c 3 t) (iblk m c 4 t) (iblk m c 5 t) (iblk m c 6 t) (iblk m c 7 t) (iblk m c 8 t)) (View.ld (iblk m c 8 t) r0_10))
        (k0_pay56 (iblk m c 0 t) (iblk m c 1 t) (iblk m c 2 t) (iblk m c 3 t) (iblk m c 4 t) (iblk m c 5 t) (iblk m c 6 t) (iblk m c 7 t)
        (iblk m c 8 t)) (View.ld (iblk m c 8 t) r0_12)) (k0_pay57 (iblk m c 0 t) (iblk m c 1 t) (iblk m c 2 t) (iblk m c 3 t) (iblk m c 4
        t) (iblk m c 5 t) (iblk m c 6 t) (iblk m c 7 t) (iblk m c 8 t)) (View.ld (iblk m c 8 t) r0_14)) (k0_pay58 (iblk m c 0 t) (iblk m c
        1 t) (iblk m c 2 t) (iblk m c 3 t) (iblk m c 4 t) (iblk m c 5 t) (iblk m c 6 t) (iblk m c 7 t) (iblk m c 8 t)) (View.ld (iblk m c
        8 t) r0_16)) (k0_pay59 (iblk m c 0 t) (iblk m c 1 t) (iblk m c 2 t) (iblk m c 3 t) (iblk m c 4 t) (iblk m c 5 t) (iblk m c 6 t)
        (iblk m c 7 t) (iblk m c 8 t)) (View.ld (iblk m c 8 t) r0_18)) (k0_pay60 (iblk m c 0 t) (iblk m c 1 t) (iblk m c 2 t) (iblk m c 3
        t) (iblk m c 4 t) (iblk m c 5 t) (iblk m c 6 t) (iblk m c 7 t) (iblk m c 8 t)) (iblk m c 7 t) (iblk m c 6 t) y
      = Cert.GlaStepRefIdeal.Parts.OUT (m ((c : Thread nD τ).loc main_arg0)) (m ((c : Thread nD τ).loc main_arg1)) (m ((c : Thread nD τ).loc main_arg2)) (m ((c : Thread
        nD τ).loc main_arg3))
        (m ((c : Thread nD τ).loc main_arg4)) (((cfg0.win 9).blk t).view.emb y) := by
  obtain ⟨i, d, rfl⟩ : ∃ (i : Fin 16) (d : Fin 256), y = ix2 i d := ⟨_, _, (ix2_eta y).symm⟩
  refine (Gates.out _ _ _ _ _ _ _ _ _ _ _ _ _ _ _ _ (blk0 m c P hP t) (blk1 m c P hP t) (blk2 m c P hP t) (blk3 m c P hP t) (blk4 m c W hW t)
    (blk5 m c B hB t) (blk8 m c S hS t) i d).trans ?_
  have e : ((cfg0.win 9).blk t).view.emb (ix2 i d) = ix2 (row t i) ⟨(head t).val * 256 + d.val, by omega⟩ := by
    blk_ext [idx t, row, head]
  have e1 : (⟨((head t).val * 256 + d.val) / 256, by omega⟩ : Fin 4) = head t := Fin.ext (by simp; omega)
  have e2 : (⟨((head t).val * 256 + d.val) % 256, Nat.mod_lt _ (by decide)⟩ : Fin 256) = d := Fin.ext (by simp)
  have e7 : iblk m c 7 t (ix2 0 d) = m ((c : Thread nD τ).loc main_arg4) (ix1 d) := by
    blk_point [iblk, V, idx t, row, head]
  have e6 : iblk m c 6 t (ix2 i d) = m ((c : Thread nD τ).loc main_arg0)
      (ix2 ⟨8192 + (row t i).val, by omega⟩ ⟨8704 + ((head t).val * 256 + d.val), by omega⟩) := by
    blk_point [iblk, V, idx t, row, head]
  rw [e, Cert.GlaStepRefIdeal.Parts.out_real _ _ _ _ _ P S W B hP hS hW hB, e6, e7]
  simp only [e1, e2, next_eq P S W B t]
  rfl

include hP hS hW hB in
/-- The output rows after the run. -/
theorem final9 : (dats m 0 c).arrAt 9 (cfgs 0).N = Cert.GlaStepRefIdeal.Parts.OUT (m ((c : Thread nD τ).loc main_arg0)) (m ((c : Thread nD τ).loc main_arg1)) (m ((c : Thread nD τ).loc main_arg2)) (m ((c : Thread
        nD τ).loc main_arg3)) (m ((c : Thread nD τ).loc main_arg4)) := by
  refine (dats m 0 c).arrAt_eq_of_covers 9 _ (by decide +kernel) fun t hf y => ?_
  blk_simp
  rw [after0_9]
  frame_out
  exact point9 m c P S W B hP hS hW hB t y

include hP hS hW hB in
/-- The states after the run. -/
theorem final10 : (dats m 0 c).arrAt 10 (cfgs 0).N = Cert.GlaStepRefIdeal.Parts.STATE (m ((c : Thread nD τ).loc main_arg0)) (m ((c : Thread nD τ).loc main_arg1)) (m ((c : Thread nD τ).loc main_arg2)) (m ((c : Thread
        nD τ).loc main_arg3)) := by
  refine (dats m 0 c).arrAt_eq_of_covers 10 _ (by decide +kernel) fun t hf y => ?_
  blk_simp
  rw [after0_10]
  exact point10 m c P S W B hP hS hW hB t y

/-- What the precondition says of the four arrays it names. -/
theorem reals (h : Cert.Pre_GlaStepIdeal_finite_gla m) :
    ∃ (P : Fin 8320 → Fin 16384 → ℝ) (S : Fin 128 → Fin 4 → Fin 128 → Fin 256 → ℝ) (W : Fin 16 → Fin 512 → ℝ) (B : Fin 512 → ℝ),
      (∀ r j, m ((c : Thread nD τ).loc main_arg0) (ix2 r j) = (P r j : EReal))
      ∧ (∀ i h k d, m ((c : Thread nD τ).loc main_arg1) (ix4 i h k d) = (S i h k d : EReal))
      ∧ (∀ a j, m ((c : Thread nD τ).loc main_arg2) (ix2 a j) = (W a j : EReal))
      ∧ (∀ j, m ((c : Thread nD τ).loc main_arg3) (ix1 j) = (B j : EReal)) := by
  have h := congrFun (h c) (fun a => a.elim0)
  obtain ⟨h, h3⟩ := IntOp.andi_eq_one.1 h
  obtain ⟨h, h2⟩ := IntOp.andi_eq_one.1 h
  obtain ⟨h0, h1⟩ := IntOp.andi_eq_one.1 h
  have : Subsingleton (Shape.Idx Cert.Pre_finite_gla.S_) := ⟨fun a b => funext fun a => a.elim0⟩
  obtain ⟨f0, g0⟩ := reals_of_all _ _ _ _ _ _ h0
  obtain ⟨f1, g1⟩ := reals_of_all _ _ _ _ _ _ h1
  obtain ⟨f2, g2⟩ := reals_of_all _ _ _ _ _ _ h2
  obtain ⟨f3, g3⟩ := reals_of_all _ _ _ _ _ _ h3
  exact ⟨fun r j => f0 (ix2 r j), fun i h k d => f1 (ix4 i h k d), fun a j => f2 (ix2 a j), fun j => f3 (ix1 j),
    fun _ _ => g0 _, fun _ _ _ _ => g1 _, fun _ _ => g2 _, fun _ => g3 _⟩

end Cert.GlaStepIdeal.Tiles

namespace Cert.Proof

/-- On real numbers the tiled GLA step and the plain one end with the same output rows and the same states. -/
theorem glaStep_algebraic : Cert.algebraic_GlaStepIdeal_GlaStepRefIdeal_pre_finite_gla := by
  pair_intro
  · run_from Cert.GlaStepIdeal.Value.run_blocks m g
  · refine θ_run_mono (Cert.GlaStepRefIdeal.Value.run m' g') ?_
    intro r hr c
    obtain ⟨h0, h1, ha⟩ := hr c
    obtain ⟨P, S, W, B, hP, hS, hW, hB⟩ := Cert.GlaStepIdeal.Tiles.reals m c hpre
    obtain ⟨e0, e1, e2, e3, e4⟩ := hagree c
    refine ⟨h0.trans ?_, h1.trans ?_, ha⟩
    · refine (Cert.GlaStepRefIdeal.Parts.out_eq m' c).trans ?_
      rw [e0, e1, e2, e3, e4]
      exact (Cert.GlaStepIdeal.Tiles.final9 m c P S W B hP hS hW hB).symm
    · refine (Cert.GlaStepRefIdeal.Parts.state_eq m' c).trans ?_
      rw [e0, e1, e2, e3]
      exact (Cert.GlaStepIdeal.Tiles.final10 m c P S W B hP hS hW hB).symm

end Cert.Proof
-- ==== Proof.lean ====
/- The claims of this directory, put together: that every kernel and every reference runs and leaves its arguments as
   they were, and that each kernel ends with the same results as its reference over the extended reals. The runs are the
   generated ones; the equalities of results are proved in the modules imported here. -/
module

public import proofs.«01_k».proof.Defs
public import proofs.«01_k».proof.Proof.Gen.HgrnStep
public import proofs.«01_k».proof.Proof.Gen.HgrnStepIdeal
public import proofs.«01_k».proof.Proof.Gen.HgrnStepRefIdeal
public import proofs.«01_k».proof.Proof.Gen.FfnUp
public import proofs.«01_k».proof.Proof.Gen.FfnUpIdeal
public import proofs.«01_k».proof.Proof.Gen.FfnUpRefIdeal
public import proofs.«01_k».proof.Proof.Gen.FfnDown
public import proofs.«01_k».proof.Proof.Gen.FfnDownIdeal
public import proofs.«01_k».proof.Proof.Gen.FfnDownRefIdeal
public import proofs.«01_k».proof.Proof.Gen.InProj
public import proofs.«01_k».proof.Proof.Gen.InProjIdeal
public import proofs.«01_k».proof.Proof.Gen.InProjRefIdeal
public import proofs.«01_k».proof.Proof.Gen.Merge
public import proofs.«01_k».proof.Proof.Gen.MergeIdeal
public import proofs.«01_k».proof.Proof.Gen.MergeRefIdeal
public import proofs.«01_k».proof.Proof.Gen.OutProj
public import proofs.«01_k».proof.Proof.Gen.OutProjIdeal
public import proofs.«01_k».proof.Proof.Gen.OutProjRefIdeal
public import proofs.«01_k».proof.Proof.Gen.FinalPrompt
public import proofs.«01_k».proof.Proof.Gen.FinalPromptIdeal
public import proofs.«01_k».proof.Proof.Gen.FinalPromptRefIdeal
public import proofs.«01_k».proof.Proof.Gen.FinalSample
public import proofs.«01_k».proof.Proof.Gen.FinalSampleIdeal
public import proofs.«01_k».proof.Proof.Gen.FinalSampleRefIdeal
public import proofs.«01_k».proof.Proof.Gen.GlaStep
public import proofs.«01_k».proof.Proof.Gen.GlaStepIdeal
public import proofs.«01_k».proof.Proof.Gen.GlaStepRefIdeal
public import proofs.«01_k».proof.Proof.Gen.Pre_finite_hgrn
public import proofs.«01_k».proof.Proof.Gen.Pre_finite_gla
public import proofs.«01_k».proof.Proof.Gen.HgrnStep.Frame
public import proofs.«01_k».proof.Proof.Gen.HgrnStepIdeal.Frame
public import proofs.«01_k».proof.Proof.Gen.FfnUp.Frame
public import proofs.«01_k».proof.Proof.Gen.FfnUpIdeal.Frame
public import proofs.«01_k».proof.Proof.Gen.FfnDown.Frame
public import proofs.«01_k».proof.Proof.Gen.FfnDownIdeal.Frame
public import proofs.«01_k».proof.Proof.Gen.InProj.Frame
public import proofs.«01_k».proof.Proof.Gen.InProjIdeal.Frame
public import proofs.«01_k».proof.Proof.Gen.Merge.Frame
public import proofs.«01_k».proof.Proof.Gen.MergeIdeal.Frame
public import proofs.«01_k».proof.Proof.Gen.OutProj.Frame
public import proofs.«01_k».proof.Proof.Gen.OutProjIdeal.Frame
public import proofs.«01_k».proof.Proof.Gen.FinalPrompt.Frame
public import proofs.«01_k».proof.Proof.Gen.FinalPromptIdeal.Frame
public import proofs.«01_k».proof.Proof.Gen.FinalSample.Frame
public import proofs.«01_k».proof.Proof.Gen.FinalSampleIdeal.Frame
public import proofs.«01_k».proof.Proof.Gen.GlaStep.Frame
public import proofs.«01_k».proof.Proof.Gen.GlaStepIdeal.Frame
public import proofs.«01_k».proof.Proof.Gen.HgrnStepRefIdeal.Run
public import proofs.«01_k».proof.Proof.Gen.FfnUpRefIdeal.Run
public import proofs.«01_k».proof.Proof.Gen.FfnDownRefIdeal.Run
public import proofs.«01_k».proof.Proof.Gen.InProjRefIdeal.Run
public import proofs.«01_k».proof.Proof.Gen.MergeRefIdeal.Run
public import proofs.«01_k».proof.Proof.Gen.OutProjRefIdeal.Run
public import proofs.«01_k».proof.Proof.Gen.FinalPromptRefIdeal.Run
public import proofs.«01_k».proof.Proof.Gen.FinalSampleRefIdeal.Run
public import proofs.«01_k».proof.Proof.Gen.GlaStepRefIdeal.Run
public import proofs.«01_k».proof.Proof.HgrnStepValue
public import proofs.«01_k».proof.Proof.FfnUpValue
public import proofs.«01_k».proof.Proof.FfnDownValue
public import proofs.«01_k».proof.Proof.InProjValue
public import proofs.«01_k».proof.Proof.MergeValue
public import proofs.«01_k».proof.Proof.OutProjValue
public import proofs.«01_k».proof.Proof.FinalPromptValue
public import proofs.«01_k».proof.Proof.FinalSampleValue
public import proofs.«01_k».proof.Proof.GlaStepValue
public import Idealize.ShloMosaic.Lib.Quiescent

@[expose] public section

set_option maxRecDepth 16384

noncomputable section

namespace Cert.Proof

open Idealize.ShloMosaic Idealize.SL.Sem

/-- The reference `HgrnStep` runs and leaves its arguments as they were. -/
theorem hgrnStepRefIdeal_frame : Cert.quiescent_HgrnStepRefIdeal := fun m g _ =>
  (θ_run (Cert.HgrnStepRefIdeal.defs (F := Ideal)) _ _).mono
    (fun r h => ⟨fun c => (h c).2.2, sem_eq_zero_of_no_sems (by decide) r.2⟩) (Cert.HgrnStepRefIdeal.Value.run m g)

/-- The reference `FfnUp` runs and leaves its arguments as they were. -/
theorem ffnUpRefIdeal_frame : Cert.quiescent_FfnUpRefIdeal := fun m g _ =>
  (θ_run (Cert.FfnUpRefIdeal.defs (F := Ideal)) _ _).mono
    (fun r h => ⟨fun c => (h c).2, sem_eq_zero_of_no_sems (by decide) r.2⟩) (Cert.FfnUpRefIdeal.Value.run m g)

/-- The reference `FfnDown` runs and leaves its arguments as they were. -/
theorem ffnDownRefIdeal_frame : Cert.quiescent_FfnDownRefIdeal := fun m g _ =>
  (θ_run (Cert.FfnDownRefIdeal.defs (F := Ideal)) _ _).mono
    (fun r h => ⟨fun c => (h c).2, sem_eq_zero_of_no_sems (by decide) r.2⟩) (Cert.FfnDownRefIdeal.Value.run m g)

/-- The reference `InProj` runs and leaves its arguments as they were. -/
theorem inProjRefIdeal_frame : Cert.quiescent_InProjRefIdeal := fun m g _ =>
  (θ_run (Cert.InProjRefIdeal.defs (F := Ideal)) _ _).mono
    (fun r h => ⟨fun c => (h c).2, sem_eq_zero_of_no_sems (by decide) r.2⟩) (Cert.InProjRefIdeal.Value.run m g)

/-- The reference `Merge` runs and leaves its arguments as they were. -/
theorem mergeRefIdeal_frame : Cert.quiescent_MergeRefIdeal := fun m g _ =>
  (θ_run (Cert.MergeRefIdeal.defs (F := Ideal)) _ _).mono
    (fun r h => ⟨fun c => (h c).2, sem_eq_zero_of_no_sems (by decide) r.2⟩) (Cert.MergeRefIdeal.Value.run m g)

/-- The reference `OutProj` runs and leaves its arguments as they were. -/
theorem outProjRefIdeal_frame : Cert.quiescent_OutProjRefIdeal := fun m g _ =>
  (θ_run (Cert.OutProjRefIdeal.defs (F := Ideal)) _ _).mono
    (fun r h => ⟨fun c => (h c).2, sem_eq_zero_of_no_sems (by decide) r.2⟩) (Cert.OutProjRefIdeal.Value.run m g)

/-- The reference `FinalPrompt` runs and leaves its arguments as they were. -/
theorem finalPromptRefIdeal_frame : Cert.quiescent_FinalPromptRefIdeal := fun m g _ =>
  (θ_run (Cert.FinalPromptRefIdeal.defs (F := Ideal)) _ _).mono
    (fun r h => ⟨fun c => (h c).2, sem_eq_zero_of_no_sems (by decide) r.2⟩) (Cert.FinalPromptRefIdeal.Value.run m g)

/-- The reference `FinalSample` runs and leaves its arguments as they were. -/
theorem finalSampleRefIdeal_frame : Cert.quiescent_FinalSampleRefIdeal := fun m g _ =>
  (θ_run (Cert.FinalSampleRefIdeal.defs (F := Ideal)) _ _).mono
    (fun r h => ⟨fun c => (h c).2, sem_eq_zero_of_no_sems (by decide) r.2⟩) (Cert.FinalSampleRefIdeal.Value.run m g)

/-- The reference `GlaStep` runs and leaves its arguments as they were. -/
theorem glaStepRefIdeal_frame : Cert.quiescent_GlaStepRefIdeal := fun m g _ =>
  (θ_run (Cert.GlaStepRefIdeal.defs (F := Ideal)) _ _).mono
    (fun r h => ⟨fun c => (h c).2.2, sem_eq_zero_of_no_sems (by decide) r.2⟩) (Cert.GlaStepRefIdeal.Value.run m g)

/-- Everything claimed. -/
theorem claim : Cert.Claim := ⟨Cert.HgrnStep.Gen.facts,
    Cert.HgrnStepIdeal.Gen.facts,
    Cert.HgrnStepRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.InProj.Gen.facts,
    Cert.InProjIdeal.Gen.facts,
    Cert.InProjRefIdeal.Gen.facts,
    Cert.Merge.Gen.facts,
    Cert.MergeIdeal.Gen.facts,
    Cert.MergeRefIdeal.Gen.facts,
    Cert.OutProj.Gen.facts,
    Cert.OutProjIdeal.Gen.facts,
    Cert.OutProjRefIdeal.Gen.facts,
    Cert.FinalPrompt.Gen.facts,
    Cert.FinalPromptIdeal.Gen.facts,
    Cert.FinalPromptRefIdeal.Gen.facts,
    Cert.FinalSample.Gen.facts,
    Cert.FinalSampleIdeal.Gen.facts,
    Cert.FinalSampleRefIdeal.Gen.facts,
    Cert.GlaStep.Gen.facts,
    Cert.GlaStepIdeal.Gen.facts,
    Cert.GlaStepRefIdeal.Gen.facts,
    Cert.Pre_finite_hgrn.Gen.facts,
    Cert.Pre_finite_gla.Gen.facts,
    fun m ρ _ => Cert.HgrnStep.Gen.frame m ρ,
    fun m ρ _ => Cert.HgrnStepIdeal.Gen.frame m ρ,
    fun m ρ _ => Cert.HgrnStepIdeal.Gen.frame m ρ,
    hgrnStepRefIdeal_frame,
    fun m g _ => hgrnStepRefIdeal_frame m g trivial,
    fun m ρ _ => Cert.FfnUp.Gen.frame m ρ,
    fun m ρ _ => Cert.FfnUpIdeal.Gen.frame m ρ,
    ffnUpRefIdeal_frame,
    fun m ρ _ => Cert.FfnDown.Gen.frame m ρ,
    fun m ρ _ => Cert.FfnDownIdeal.Gen.frame m ρ,
    ffnDownRefIdeal_frame,
    fun m ρ _ => Cert.InProj.Gen.frame m ρ,
    fun m ρ _ => Cert.InProjIdeal.Gen.frame m ρ,
    inProjRefIdeal_frame,
    fun m ρ _ => Cert.Merge.Gen.frame m ρ,
    fun m ρ _ => Cert.MergeIdeal.Gen.frame m ρ,
    mergeRefIdeal_frame,
    fun m ρ _ => Cert.OutProj.Gen.frame m ρ,
    fun m ρ _ => Cert.OutProjIdeal.Gen.frame m ρ,
    outProjRefIdeal_frame,
    fun m ρ _ => Cert.FinalPrompt.Gen.frame m ρ,
    fun m ρ _ => Cert.FinalPromptIdeal.Gen.frame m ρ,
    finalPromptRefIdeal_frame,
    fun m ρ _ => Cert.FinalSample.Gen.frame m ρ,
    fun m ρ _ => Cert.FinalSampleIdeal.Gen.frame m ρ,
    finalSampleRefIdeal_frame,
    fun m ρ _ => Cert.GlaStep.Gen.frame m ρ,
    fun m ρ _ => Cert.GlaStepIdeal.Gen.frame m ρ,
    fun m ρ _ => Cert.GlaStepIdeal.Gen.frame m ρ,
    glaStepRefIdeal_frame,
    fun m g _ => glaStepRefIdeal_frame m g trivial,
    trivial,
    hgrnStep_algebraic,
    trivial,
    ffnUp_algebraic,
    trivial,
    ffnDown_algebraic,
    trivial,
    inProj_algebraic,
    trivial,
    merge_algebraic,
    trivial,
    outProj_algebraic,
    trivial,
    finalPrompt_algebraic,
    trivial,
    finalSample_algebraic,
    trivial,
    glaStep_algebraic⟩

end Cert.Proof

end
